-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![2048, 512]⟩ ⟨2, ![4096, 512]⟩ (Layout.meshBlock [2, 2, 2] ![[2], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x512 : Shape := ⟨2, ![2048, 512]⟩
abbrev S1024x512 : Shape := ⟨2, ![1024, 512]⟩
abbrev S8 : Shape := ⟨1, ![8]⟩
abbrev S_ : Shape := ⟨0, ![]⟩
abbrev S1 : Shape := ⟨1, ![1]⟩
abbrev S256x512 : Shape := ⟨2, ![256, 512]⟩
abbrev S224x512 : Shape := ⟨2, ![224, 512]⟩
abbrev S192x512 : Shape := ⟨2, ![192, 512]⟩
abbrev S128x512 : Shape := ⟨2, ![128, 512]⟩
abbrev S96x512 : Shape := ⟨2, ![96, 512]⟩
abbrev S64x512 : Shape := ⟨2, ![64, 512]⟩
abbrev S40x512 : Shape := ⟨2, ![40, 512]⟩
abbrev S24x512 : Shape := ⟨2, ![24, 512]⟩

abbrev nBuf : Space → Nat
  | .hbm => 2
  | .vmem => 3
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  (ofTc nBuf bufTy 1 56 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_8 : BitVec 32 := 4#32
  let v15 : BitVec 32 := Scalar.muli v2 c4_i32_8
  let v16 : BitVec 32 := Scalar.addi c0_i32 v15
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_9 : BitVec 32 := 2#32
  let v17 : BitVec 32 := Scalar.muli v5 c2_i32_9
  let v18 : BitVec 32 := Scalar.addi v16 v17
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_10 : BitVec 32 := 1#32
  let v19 : BitVec 32 := Scalar.muli v9 c1_i32_10
  let v20 : BitVec 32 := Scalar.addi v18 v19
  v20.toNat
def k0_dev2 (d0 : Dev nD) : Nat :=
  let c0_i32_13 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_12 : BitVec 32 := 4#32
  let v21 : BitVec 32 := Scalar.muli v10 c4_i32_12
  let v22 : BitVec 32 := Scalar.addi c0_i32_13 v21
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_14 : BitVec 32 := 2#32
  let v23 : BitVec 32 := Scalar.muli v5 c2_i32_14
  let v24 : BitVec 32 := Scalar.addi v22 v23
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_15 : BitVec 32 := 1#32
  let v25 : BitVec 32 := Scalar.muli v8 c1_i32_15
  let v26 : BitVec 32 := Scalar.addi v24 v25
  v26.toNat
def k0_off1 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32 : BitVec 32 := 1024#32
  let v11 : BitVec 32 := Scalar.muli v2 c1024_i32
  let c0_i32_17 : BitVec 32 := 0#32
  let v27 : BitVec 32 := Scalar.addi v11 c0_i32_17
  let c0_i32_21 : BitVec 32 := 0#32
  ![v27.toNat, 0]
def k0_off2 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32 : BitVec 32 := 1024#32
  let v11 : BitVec 32 := Scalar.muli v2 c1024_i32
  let c256_i32 : BitVec 32 := 256#32
  let v32 : BitVec 32 := Scalar.addi v11 c256_i32
  let c0_i32_25 : BitVec 32 := 0#32
  ![v32.toNat, 0]
def k0_off3 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32 : BitVec 32 := 1024#32
  let v11 : BitVec 32 := Scalar.muli v2 c1024_i32
  let c480_i32 : BitVec 32 := 480#32
  let v37 : BitVec 32 := Scalar.addi v11 c480_i32
  let c0_i32_29 : BitVec 32 := 0#32
  ![v37.toNat, 0]
def k0_off4 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32 : BitVec 32 := 1024#32
  let v11 : BitVec 32 := Scalar.muli v2 c1024_i32
  let c672_i32 : BitVec 32 := 672#32
  let v42 : BitVec 32 := Scalar.addi v11 c672_i32
  let c0_i32_32 : BitVec 32 := 0#32
  ![v42.toNat, 0]
def k0_off5 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32 : BitVec 32 := 1024#32
  let v11 : BitVec 32 := Scalar.muli v2 c1024_i32
  let c800_i32 : BitVec 32 := 800#32
  let v47 : BitVec 32 := Scalar.addi v11 c800_i32
  let c0_i32_36 : BitVec 32 := 0#32
  ![v47.toNat, 0]
def k0_off6 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32 : BitVec 32 := 1024#32
  let v11 : BitVec 32 := Scalar.muli v2 c1024_i32
  let c896_i32 : BitVec 32 := 896#32
  let v52 : BitVec 32 := Scalar.addi v11 c896_i32
  let c0_i32_39 : BitVec 32 := 0#32
  ![v52.toNat, 0]
def k0_off7 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32 : BitVec 32 := 1024#32
  let v11 : BitVec 32 := Scalar.muli v2 c1024_i32
  let c960_i32 : BitVec 32 := 960#32
  let v57 : BitVec 32 := Scalar.addi v11 c960_i32
  let c0_i32_42 : BitVec 32 := 0#32
  ![v57.toNat, 0]
def k0_off8 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32 : BitVec 32 := 1024#32
  let v11 : BitVec 32 := Scalar.muli v2 c1024_i32
  let c1000_i32 : BitVec 32 := 1000#32
  let v62 : BitVec 32 := Scalar.addi v11 c1000_i32
  let c0_i32_45 : BitVec 32 := 0#32
  ![v62.toNat, 0]
def k0_dev3 (d0 : Dev nD) : Nat :=
  let c0_i32_53 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_52 : BitVec 32 := 4#32
  let v71 : BitVec 32 := Scalar.muli v2 c4_i32_52
  let v72 : BitVec 32 := Scalar.addi c0_i32_53 v71
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_54 : BitVec 32 := 2#32
  let v73 : BitVec 32 := Scalar.muli v5 c2_i32_54
  let v74 : BitVec 32 := Scalar.addi v72 v73
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_55 : BitVec 32 := 1#32
  let v75 : BitVec 32 := Scalar.muli v9 c1_i32_55
  let v76 : BitVec 32 := Scalar.addi v74 v75
  v76.toNat
def k0_dev4 (d0 : Dev nD) : Nat :=
  let c0_i32_67 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_66 : BitVec 32 := 4#32
  let v87 : BitVec 32 := Scalar.muli v2 c4_i32_66
  let v88 : BitVec 32 := Scalar.addi c0_i32_67 v87
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_68 : BitVec 32 := 2#32
  let v89 : BitVec 32 := Scalar.muli v5 c2_i32_68
  let v90 : BitVec 32 := Scalar.addi v88 v89
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_69 : BitVec 32 := 1#32
  let v91 : BitVec 32 := Scalar.muli v9 c1_i32_69
  let v92 : BitVec 32 := Scalar.addi v90 v91
  v92.toNat
def k0_dev5 (d0 : Dev nD) : Nat :=
  let c0_i32_81 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_80 : BitVec 32 := 4#32
  let v103 : BitVec 32 := Scalar.muli v2 c4_i32_80
  let v104 : BitVec 32 := Scalar.addi c0_i32_81 v103
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_82 : BitVec 32 := 2#32
  let v105 : BitVec 32 := Scalar.muli v5 c2_i32_82
  let v106 : BitVec 32 := Scalar.addi v104 v105
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_83 : BitVec 32 := 1#32
  let v107 : BitVec 32 := Scalar.muli v9 c1_i32_83
  let v108 : BitVec 32 := Scalar.addi v106 v107
  v108.toNat
def k0_dev6 (d0 : Dev nD) : Nat :=
  let c0_i32_95 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_94 : BitVec 32 := 4#32
  let v119 : BitVec 32 := Scalar.muli v2 c4_i32_94
  let v120 : BitVec 32 := Scalar.addi c0_i32_95 v119
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_96 : BitVec 32 := 2#32
  let v121 : BitVec 32 := Scalar.muli v5 c2_i32_96
  let v122 : BitVec 32 := Scalar.addi v120 v121
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_97 : BitVec 32 := 1#32
  let v123 : BitVec 32 := Scalar.muli v9 c1_i32_97
  let v124 : BitVec 32 := Scalar.addi v122 v123
  v124.toNat
def k0_dev7 (d0 : Dev nD) : Nat :=
  let c0_i32_109 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_108 : BitVec 32 := 4#32
  let v135 : BitVec 32 := Scalar.muli v2 c4_i32_108
  let v136 : BitVec 32 := Scalar.addi c0_i32_109 v135
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_110 : BitVec 32 := 2#32
  let v137 : BitVec 32 := Scalar.muli v5 c2_i32_110
  let v138 : BitVec 32 := Scalar.addi v136 v137
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_111 : BitVec 32 := 1#32
  let v139 : BitVec 32 := Scalar.muli v9 c1_i32_111
  let v140 : BitVec 32 := Scalar.addi v138 v139
  v140.toNat
def k0_dev8 (d0 : Dev nD) : Nat :=
  let c0_i32_123 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_122 : BitVec 32 := 4#32
  let v151 : BitVec 32 := Scalar.muli v2 c4_i32_122
  let v152 : BitVec 32 := Scalar.addi c0_i32_123 v151
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_124 : BitVec 32 := 2#32
  let v153 : BitVec 32 := Scalar.muli v5 c2_i32_124
  let v154 : BitVec 32 := Scalar.addi v152 v153
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_125 : BitVec 32 := 1#32
  let v155 : BitVec 32 := Scalar.muli v9 c1_i32_125
  let v156 : BitVec 32 := Scalar.addi v154 v155
  v156.toNat
def k0_dev9 (d0 : Dev nD) : Nat :=
  let c0_i32_137 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_136 : BitVec 32 := 4#32
  let v167 : BitVec 32 := Scalar.muli v2 c4_i32_136
  let v168 : BitVec 32 := Scalar.addi c0_i32_137 v167
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_138 : BitVec 32 := 2#32
  let v169 : BitVec 32 := Scalar.muli v5 c2_i32_138
  let v170 : BitVec 32 := Scalar.addi v168 v169
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_139 : BitVec 32 := 1#32
  let v171 : BitVec 32 := Scalar.muli v9 c1_i32_139
  let v172 : BitVec 32 := Scalar.addi v170 v171
  v172.toNat
def k0_dev10 (d0 : Dev nD) : Nat :=
  let c0_i32_151 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_150 : BitVec 32 := 4#32
  let v183 : BitVec 32 := Scalar.muli v2 c4_i32_150
  let v184 : BitVec 32 := Scalar.addi c0_i32_151 v183
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_152 : BitVec 32 := 2#32
  let v185 : BitVec 32 := Scalar.muli v5 c2_i32_152
  let v186 : BitVec 32 := Scalar.addi v184 v185
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_153 : BitVec 32 := 1#32
  let v187 : BitVec 32 := Scalar.muli v9 c1_i32_153
  let v188 : BitVec 32 := Scalar.addi v186 v187
  v188.toNat
def k0_dev11 (d0 : Dev nD) : Nat :=
  let c0_i32_177 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_176 : BitVec 32 := 4#32
  let v212 : BitVec 32 := Scalar.muli v10 c4_i32_176
  let v213 : BitVec 32 := Scalar.addi c0_i32_177 v212
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_178 : BitVec 32 := 2#32
  let v214 : BitVec 32 := Scalar.muli v5 c2_i32_178
  let v215 : BitVec 32 := Scalar.addi v213 v214
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_179 : BitVec 32 := 1#32
  let v216 : BitVec 32 := Scalar.muli v8 c1_i32_179
  let v217 : BitVec 32 := Scalar.addi v215 v216
  v217.toNat
def k0_dev12 (d0 : Dev nD) : Nat :=
  let c0_i32_207 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_206 : BitVec 32 := 4#32
  let v245 : BitVec 32 := Scalar.muli v10 c4_i32_206
  let v246 : BitVec 32 := Scalar.addi c0_i32_207 v245
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_208 : BitVec 32 := 2#32
  let v247 : BitVec 32 := Scalar.muli v5 c2_i32_208
  let v248 : BitVec 32 := Scalar.addi v246 v247
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_209 : BitVec 32 := 1#32
  let v249 : BitVec 32 := Scalar.muli v8 c1_i32_209
  let v250 : BitVec 32 := Scalar.addi v248 v249
  v250.toNat
def k0_dev13 (d0 : Dev nD) : Nat :=
  let c0_i32_237 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_236 : BitVec 32 := 4#32
  let v278 : BitVec 32 := Scalar.muli v10 c4_i32_236
  let v279 : BitVec 32 := Scalar.addi c0_i32_237 v278
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_238 : BitVec 32 := 2#32
  let v280 : BitVec 32 := Scalar.muli v5 c2_i32_238
  let v281 : BitVec 32 := Scalar.addi v279 v280
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_239 : BitVec 32 := 1#32
  let v282 : BitVec 32 := Scalar.muli v8 c1_i32_239
  let v283 : BitVec 32 := Scalar.addi v281 v282
  v283.toNat
def k0_dev14 (d0 : Dev nD) : Nat :=
  let c0_i32_267 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_266 : BitVec 32 := 4#32
  let v311 : BitVec 32 := Scalar.muli v10 c4_i32_266
  let v312 : BitVec 32 := Scalar.addi c0_i32_267 v311
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_268 : BitVec 32 := 2#32
  let v313 : BitVec 32 := Scalar.muli v5 c2_i32_268
  let v314 : BitVec 32 := Scalar.addi v312 v313
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_269 : BitVec 32 := 1#32
  let v315 : BitVec 32 := Scalar.muli v8 c1_i32_269
  let v316 : BitVec 32 := Scalar.addi v314 v315
  v316.toNat
def k0_dev15 (d0 : Dev nD) : Nat :=
  let c0_i32_297 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_296 : BitVec 32 := 4#32
  let v344 : BitVec 32 := Scalar.muli v10 c4_i32_296
  let v345 : BitVec 32 := Scalar.addi c0_i32_297 v344
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_298 : BitVec 32 := 2#32
  let v346 : BitVec 32 := Scalar.muli v5 c2_i32_298
  let v347 : BitVec 32 := Scalar.addi v345 v346
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_299 : BitVec 32 := 1#32
  let v348 : BitVec 32 := Scalar.muli v8 c1_i32_299
  let v349 : BitVec 32 := Scalar.addi v347 v348
  v349.toNat
def k0_dev16 (d0 : Dev nD) : Nat :=
  let c0_i32_327 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_326 : BitVec 32 := 4#32
  let v377 : BitVec 32 := Scalar.muli v10 c4_i32_326
  let v378 : BitVec 32 := Scalar.addi c0_i32_327 v377
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_328 : BitVec 32 := 2#32
  let v379 : BitVec 32 := Scalar.muli v5 c2_i32_328
  let v380 : BitVec 32 := Scalar.addi v378 v379
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_329 : BitVec 32 := 1#32
  let v381 : BitVec 32 := Scalar.muli v8 c1_i32_329
  let v382 : BitVec 32 := Scalar.addi v380 v381
  v382.toNat
def k0_dev17 (d0 : Dev nD) : Nat :=
  let c0_i32_357 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_356 : BitVec 32 := 4#32
  let v410 : BitVec 32 := Scalar.muli v10 c4_i32_356
  let v411 : BitVec 32 := Scalar.addi c0_i32_357 v410
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_358 : BitVec 32 := 2#32
  let v412 : BitVec 32 := Scalar.muli v5 c2_i32_358
  let v413 : BitVec 32 := Scalar.addi v411 v412
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_359 : BitVec 32 := 1#32
  let v414 : BitVec 32 := Scalar.muli v8 c1_i32_359
  let v415 : BitVec 32 := Scalar.addi v413 v414
  v415.toNat
def k0_dev18 (d0 : Dev nD) : Nat :=
  let c0_i32_387 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_386 : BitVec 32 := 4#32
  let v443 : BitVec 32 := Scalar.muli v10 c4_i32_386
  let v444 : BitVec 32 := Scalar.addi c0_i32_387 v443
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_388 : BitVec 32 := 2#32
  let v445 : BitVec 32 := Scalar.muli v5 c2_i32_388
  let v446 : BitVec 32 := Scalar.addi v444 v445
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_389 : BitVec 32 := 1#32
  let v447 : BitVec 32 := Scalar.muli v8 c1_i32_389
  let v448 : BitVec 32 := Scalar.addi v446 v447
  v448.toNat
def k0_off9 (d0 : Dev nD) : Fin 2 → Nat :=
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let c1024_i32_6 : BitVec 32 := 1024#32
  let v13 : BitVec 32 := Scalar.muli v12 c1024_i32_6
  let c0_i32_398 : BitVec 32 := 0#32
  let v459 : BitVec 32 := Scalar.addi v13 c0_i32_398
  let c0_i32_410 : BitVec 32 := 0#32
  ![v459.toNat, 0]
def k0_off10 (d0 : Dev nD) : Fin 2 → Nat :=
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let c1024_i32_6 : BitVec 32 := 1024#32
  let v13 : BitVec 32 := Scalar.muli v12 c1024_i32_6
  let c256_i32_413 : BitVec 32 := 256#32
  let v474 : BitVec 32 := Scalar.addi v13 c256_i32_413
  let c0_i32_425 : BitVec 32 := 0#32
  ![v474.toNat, 0]
def k0_off11 (d0 : Dev nD) : Fin 2 → Nat :=
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let c1024_i32_6 : BitVec 32 := 1024#32
  let v13 : BitVec 32 := Scalar.muli v12 c1024_i32_6
  let c480_i32_428 : BitVec 32 := 480#32
  let v489 : BitVec 32 := Scalar.addi v13 c480_i32_428
  let c0_i32_440 : BitVec 32 := 0#32
  ![v489.toNat, 0]
def k0_off12 (d0 : Dev nD) : Fin 2 → Nat :=
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let c1024_i32_6 : BitVec 32 := 1024#32
  let v13 : BitVec 32 := Scalar.muli v12 c1024_i32_6
  let c672_i32_443 : BitVec 32 := 672#32
  let v504 : BitVec 32 := Scalar.addi v13 c672_i32_443
  let c0_i32_455 : BitVec 32 := 0#32
  ![v504.toNat, 0]
def k0_off13 (d0 : Dev nD) : Fin 2 → Nat :=
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let c1024_i32_6 : BitVec 32 := 1024#32
  let v13 : BitVec 32 := Scalar.muli v12 c1024_i32_6
  let c800_i32_458 : BitVec 32 := 800#32
  let v519 : BitVec 32 := Scalar.addi v13 c800_i32_458
  let c0_i32_470 : BitVec 32 := 0#32
  ![v519.toNat, 0]
def k0_off14 (d0 : Dev nD) : Fin 2 → Nat :=
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let c1024_i32_6 : BitVec 32 := 1024#32
  let v13 : BitVec 32 := Scalar.muli v12 c1024_i32_6
  let c896_i32_473 : BitVec 32 := 896#32
  let v534 : BitVec 32 := Scalar.addi v13 c896_i32_473
  let c0_i32_485 : BitVec 32 := 0#32
  ![v534.toNat, 0]
def k0_off15 (d0 : Dev nD) : Fin 2 → Nat :=
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let c1024_i32_6 : BitVec 32 := 1024#32
  let v13 : BitVec 32 := Scalar.muli v12 c1024_i32_6
  let c960_i32_488 : BitVec 32 := 960#32
  let v549 : BitVec 32 := Scalar.addi v13 c960_i32_488
  let c0_i32_500 : BitVec 32 := 0#32
  ![v549.toNat, 0]
def k0_off16 (d0 : Dev nD) : Fin 2 → Nat :=
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let c1024_i32_6 : BitVec 32 := 1024#32
  let v13 : BitVec 32 := Scalar.muli v12 c1024_i32_6
  let c1000_i32_503 : BitVec 32 := 1000#32
  let v564 : BitVec 32 := Scalar.addi v13 c1000_i32_503
  let c0_i32_515 : BitVec 32 := 0#32
  ![v564.toNat, 0]
-- ==== ReferenceIdeal.lean ====
abbrev S4096x512 : Shape := ⟨2, ![4096, 512]⟩
abbrev S2x2048x512 : Shape := ⟨3, ![2, 2048, 512]⟩
abbrev S_ : Shape := ⟨0, ![]⟩
abbrev S2048x512 : Shape := ⟨2, ![2048, 512]⟩

abbrev nBuf : Space → Nat
  | .hbm => 4
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S2x2048x512, .f32⟩
  | .hbm, ⟨2, _⟩ => ⟨S_, .f32⟩
  | .hbm, ⟨3, _⟩ => ⟨S2048x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Steps.lean ====
/-
# 01_k — the kernel as eight loops over its chunks

The printed kernel runs each of its eight chunks of rows unrolled. Here the same operations are written once for a
chunk `k : Fin 8` and strung together by `each`, which runs a step for the chunks 0 to 7 in order; `body_eq` states
that the printed kernel is that program.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Tactic

@[expose] public section

noncomputable section

namespace Cert.AllReduce

open Cert.KernelIdeal Cert.KernelIdeal.Gen
open Idealize.ShloMosaic Idealize.SL.Sem

variable {F : FTy → Type} [FloatOps F]

/-! ## Chunks -/

/-- How many rows chunk `k` has. -/
abbrev rows : Fin 8 → ℕ := ![256, 224, 192, 128, 96, 64, 40, 24]
/-- The first row of chunk `k` within a half of 1024 rows. -/
abbrev start : Fin 8 → ℕ := ![0, 256, 480, 672, 800, 896, 960, 1000]

/-- The shape of chunk `k`. -/
abbrev Sc (k : Fin 8) : Shape := ⟨2, ![rows k, 512]⟩

theorem start_inb (k : Fin 8) : ∀ a, (![start k, 0] : Fin 2 → ℕ) a + (Sc k).size a ≤ S1024x512.size a := by
  revert k; decide

/-- Chunk `k`'s rows within a half of 1024 rows. -/
abbrev rc (k : Fin 8) : Rect S1024x512 := Rect.unit (s := S1024x512) ![start k, 0] (Sc k).size (start_inb k)

/-- The offset of chunk `k` of the half device `d` sums, in an array of 2048 rows. -/
abbrev offMine (d : Dev nD) : Fin 8 → Fin 2 → ℕ :=
  ![k0_off1 d, k0_off2 d, k0_off3 d, k0_off4 d, k0_off5 d, k0_off6 d, k0_off7 d, k0_off8 d]
/-- The offset of chunk `k` of the other half. -/
abbrev offOther (d : Dev nD) : Fin 8 → Fin 2 → ℕ :=
  ![k0_off9 d, k0_off10 d, k0_off11 d, k0_off12 d, k0_off13 d, k0_off14 d, k0_off15 d, k0_off16 d]

/-- `offMine` in closed form. -/
theorem offMine_eq (d : Dev nD) (k : Fin 8) : offMine d k = ![1024 * (d.val / 4) + start k, 0] := by
  revert d k; decide +kernel
/-- `offOther` in closed form. -/
theorem offOther_eq (d : Dev nD) (k : Fin 8) : offOther d k = ![1024 * (1 - d.val / 4) + start k, 0] := by
  revert d k; decide +kernel

theorem offMine_inb (d : Dev nD) (k : Fin 8) : ∀ a, offMine d k a + (Sc k).size a ≤ S2048x512.size a := by
  rw [offMine_eq]; revert d k; decide
theorem offOther_inb (d : Dev nD) (k : Fin 8) : ∀ a, offOther d k a + (Sc k).size a ≤ S2048x512.size a := by
  rw [offOther_eq]; revert d k; decide

/-- Chunk `k` of the half device `d` sums, in an array of 2048 rows. -/
abbrev rMine (d : Dev nD) (k : Fin 8) : Rect S2048x512 := Rect.unit (s := S2048x512) (offMine d k) (Sc k).size (offMine_inb d k)
/-- Chunk `k` of the other half. -/
abbrev rOther (d : Dev nD) (k : Fin 8) : Rect S2048x512 := Rect.unit (s := S2048x512) (offOther d k) (Sc k).size (offOther_inb d k)

/-! ## The buffers' chunks and the semaphores -/

/-- Chunk `k` of a scratch buffer. -/
abbrev half (b : Memref sig .tc .vmem S1024x512 .f32) (k : Fin 8) : Memref sig .tc .vmem (Sc k) .f32 := b.slice (rc k) (fun _ => rfl)
/-- Chunk `k` of the half `d` sums, of an array. -/
abbrev mine (b : Memref sig .tc .hbm S2048x512 .f32) (d : Dev nD) (k : Fin 8) : Memref sig .tc .hbm (Sc k) .f32 := b.slice (rMine d k) (fun _ => rfl)
/-- Chunk `k` of the other half, of an array. -/
abbrev other (b : Memref sig .tc .hbm S2048x512 .f32) (d : Dev nD) (k : Fin 8) : Memref sig .tc .hbm (Sc k) .f32 := b.slice (rOther d k) (fun _ => rfl)

/-- The argument's array, the result's, and the three scratch buffers: own rows, sum, and received sum. -/
abbrev aM : Memref sig .tc .hbm S2048x512 .f32 := Memref.whole main_arg0
abbrev oM : Memref sig .tc .hbm S2048x512 .f32 := Memref.whole main_v1
abbrev xM : Memref sig .tc .vmem S1024x512 .f32 := Memref.whole cc0_scratch0
abbrev sM : Memref sig .tc .vmem S1024x512 .f32 := Memref.whole cc0_scratch1
abbrev rM : Memref sig .tc .vmem S1024x512 .f32 := Memref.whole cc0_scratch2

theorem sem_inb (k : Fin 8) : ∀ a, (![k.val] : Fin 1 → ℕ) a + S1.size a ≤ S8.size a := by revert k; decide

/-- Semaphore `k` of an array of eight. -/
abbrev nth (a : DmaSems sig S8) (k : Fin 8) : DmaSem sig :=
  ((a.slice (Rect.unit (s := S8) ![k.val] S1.size (sem_inb k))).squeeze S_ squeezes_S1_S_).sem

/-- The runtime's barrier semaphore. -/
abbrev barS : Sem sig := (SemArray.scalar (sig.barrier 0 rfl) : Sems sig S_).sem

/-! ## The steps -/

abbrev P := Prog (TpuEff nD τ sig (Elt F) Λ₀ .tc) PUnit

/-- The device chunk `k` goes to first, and the one its sum goes to. -/
abbrev zDev (d : Dev nD) : Fin 8 → Dev nD :=
  ![⟨k0_dev3 d, k0_dev3_lt d⟩, ⟨k0_dev4 d, k0_dev4_lt d⟩, ⟨k0_dev5 d, k0_dev5_lt d⟩, ⟨k0_dev6 d, k0_dev6_lt d⟩,
    ⟨k0_dev7 d, k0_dev7_lt d⟩, ⟨k0_dev8 d, k0_dev8_lt d⟩, ⟨k0_dev9 d, k0_dev9_lt d⟩, ⟨k0_dev10 d, k0_dev10_lt d⟩]
abbrev xDev (d : Dev nD) : Fin 8 → Dev nD :=
  ![⟨k0_dev11 d, k0_dev11_lt d⟩, ⟨k0_dev12 d, k0_dev12_lt d⟩, ⟨k0_dev13 d, k0_dev13_lt d⟩, ⟨k0_dev14 d, k0_dev14_lt d⟩,
    ⟨k0_dev15 d, k0_dev15_lt d⟩, ⟨k0_dev16 d, k0_dev16_lt d⟩, ⟨k0_dev17 d, k0_dev17_lt d⟩, ⟨k0_dev18 d, k0_dev18_lt d⟩]

/-- A step run for every chunk in order. -/
def each (f : Fin 8 → P (F := F)) : P (F := F) := do
  f 0; f 1; f 2; f 3; f 4; f 5; f 6; f 7

/-- A copy within the device, and a copy to another. -/
abbrev copy {sp sp' : Space} {s : Shape} (src : Memref sig .tc sp s .f32) (dst : Memref sig .tc sp' s .f32) (sem : DmaSem sig)
    (h : DmaTarget.Typed (nD := nD) sp (.dma sem) (.here (τ := τ) (p := .tc) dst)) : P (F := F) :=
  Prog.lift (.enqueueDma src (.here dst) (.dma sem) (View.wordExact_bits rfl) (View.wordExact_bits rfl) h)
abbrev send {s : Shape} (src dst : Memref sig .tc .vmem s .f32) (d : Dev nD) (sS sR : DmaSem sig)
    (h : dst.view.ref.isScScratch = false)
    (h' : DmaTarget.Typed .vmem (.dma sR) (.remote (τ := τ) (p := .tc) (Dev.tc d) dst (.dma sS) h)) : P (F := F) :=
  Prog.lift (.enqueueDma src (.remote (Dev.tc d) dst (.dma sS) h) (.dma sR) (View.wordExact_bits rfl) (View.wordExact_bits rfl) h')
abbrev wait {sp sp' : Space} {s : Shape} (sem : DmaSem sig) (src : Memref sig .tc sp s .f32) (dst : Memref sig .tc sp' s .f32) : P (F := F) :=
  Prog.lift (.waitDma2 sem src dst (View.wordExact_bits rfl) (View.wordExact_bits rfl))

theorem chunk_loads (b : Memref sig .tc .vmem S1024x512 .f32) (k : Fin 8) : b.view.LoadsAt (rc k).toLoadRect := by
  fin_cases k <;> first
    | exact View.loadsAt_vmem h_S256x512 | exact View.loadsAt_vmem h_S224x512 | exact View.loadsAt_vmem h_S192x512 | exact View.loadsAt_vmem h_S128x512
    | exact View.loadsAt_vmem h_S96x512 | exact View.loadsAt_vmem h_S64x512 | exact View.loadsAt_vmem h_S40x512 | exact View.loadsAt_vmem h_S24x512

theorem chunk_stores (b : Memref sig .tc .vmem S1024x512 .f32) (k : Fin 8) : (b.access (rc k)).Stores Finset.univ := by
  fin_cases k <;> first
    | exact View.stores_vmem_bits_univ h_S256x512 rfl | exact View.stores_vmem_bits_univ h_S224x512 rfl
    | exact View.stores_vmem_bits_univ h_S192x512 rfl | exact View.stores_vmem_bits_univ h_S128x512 rfl
    | exact View.stores_vmem_bits_univ h_S96x512 rfl | exact View.stores_vmem_bits_univ h_S64x512 rfl
    | exact View.stores_vmem_bits_univ h_S40x512 rfl | exact View.stores_vmem_bits_univ h_S24x512 rfl

theorem cast_self (k : Fin 8) : (Sc k).ShapeCasts (Sc k) := by
  fin_cases k <;> first
    | exact shapeCasts_S256x512_S256x512 | exact shapeCasts_S224x512_S224x512 | exact shapeCasts_S192x512_S192x512 | exact shapeCasts_S128x512_S128x512
    | exact shapeCasts_S96x512_S96x512 | exact shapeCasts_S64x512_S64x512 | exact shapeCasts_S40x512_S40x512 | exact shapeCasts_S24x512_S24x512

/-- The sum of a chunk, as the kernel stores it. -/
abbrev addC (k : Fin 8) (v w : Vec F (Sc k) .f32) : FVec F (Sc k) .f32 := shapeCast (Sc k) (addf v w : FVec F (Sc k) .f32) (cast_self k)

/-- A chunk of the received rows replaced by its sum with the own rows. -/
def accum (k : Fin 8) : P (F := F) := do
  let v : Vec F (Sc k) .f32 ← Prog.lift (.load sM (rc k).toLoadRect (chunk_loads sM k))
  let w : Vec F (Sc k) .f32 ← Prog.lift (.load xM (rc k).toLoadRect (chunk_loads xM k))
  let _ : Vec F (Sc k) .f32 ← Prog.lift (.load sM (rc k).toLoadRect (chunk_loads sM k))
  Prog.lift (.store sM (rc k) (addC k v w) Finset.univ (chunk_stores sM k) (.inl rfl))

/-- The handshake: a unit to each partner's barrier semaphore, and the wait for both. -/
def handshake (d : Dev nD) : P (F := F) := do
  semSignalWord (⟨k0_dev1 d, k0_dev1_lt d⟩ : Dev nD) barS 1#32
  semSignalWord (⟨k0_dev2 d, k0_dev2_lt d⟩ : Dev nD) barS 1#32
  semWaitWord barS 2#32

/-- Own rows start into scratch. -/
def fetch (d : Dev nD) (k : Fin 8) : P (F := F) := copy (mine aM d k) (half xM k) (nth cc0_scratch3 k) ⟨Or.inl rfl, trivial⟩
/-- Own rows arrived, they go to the first partner. -/
def forward (d : Dev nD) (k : Fin 8) : P (F := F) := do
  wait (nth cc0_scratch3 k) (mine aM d k) (half xM k)
  send (half xM k) (half sM k) (zDev d k) (nth cc0_scratch4 k) (nth cc0_scratch5 k) rfl ⟨⟨rfl, Or.inl rfl⟩, trivial⟩
/-- The partner's rows arrived, they are summed and the sum goes to the second partner and to the result. -/
def reduce (d : Dev nD) (k : Fin 8) : P (F := F) := do
  wait (nth cc0_scratch5 k) (half xM k) (half sM k)
  accum k
  send (half sM k) (half rM k) (xDev d k) (nth cc0_scratch6 k) (nth cc0_scratch7 k) rfl ⟨⟨rfl, Or.inl rfl⟩, trivial⟩
  copy (half sM k) (mine oM d k) (nth cc0_scratch8 k) ⟨Or.inl rfl, trivial⟩
/-- The second partner's sum arrived, it goes to the result. -/
def collect (d : Dev nD) (k : Fin 8) : P (F := F) := do
  wait (nth cc0_scratch7 k) (half rM k) (half rM k)
  copy (half rM k) (other oM d k) (nth cc0_scratch9 k) ⟨Or.inl rfl, trivial⟩
/-- The result's copies finished. -/
def drainMine (d : Dev nD) (k : Fin 8) : P (F := F) := wait (nth cc0_scratch8 k) (half sM k) (mine oM d k)
def drainOther (d : Dev nD) (k : Fin 8) : P (F := F) := wait (nth cc0_scratch9 k) (half rM k) (other oM d k)
/-- The sends finished. -/
def drainSends (k : Fin 8) : P (F := F) := do
  wait (nth cc0_scratch4 k) (half sM k) (half xM k)
  wait (nth cc0_scratch6 k) (half rM k) (half sM k)

/-- The kernel on device `d`. -/
def work (d : Dev nD) : P (F := F) := do
  handshake d
  each (fetch d)
  each (forward d)
  each (reduce d)
  each (collect d)
  each (drainMine d)
  each (drainOther d)
  each drainSends

set_option maxRecDepth 65536 in
set_option maxHeartbeats 4000000 in
/-- The printed kernel is the program above, run on the device it finds itself on. -/
theorem body_eq :
    (cc0_body (F := F) aM (Memref.isWhole_whole _) oM (Memref.isWhole_whole _) xM (Memref.isWhole_whole _) sM (Memref.isWhole_whole _)
        rM (Memref.isWhole_whole _) cc0_scratch3 cc0_scratch4 cc0_scratch5 cc0_scratch6 cc0_scratch7 cc0_scratch8 cc0_scratch9)
      = (Prog.lift .deviceId >>= work) := rfl

end Cert.AllReduce
-- ==== Proof.Schedule.lean ====
/-
# 01_k — who hands what to whom

Device `c` has two partners: `zp c`, which holds the other block of the same half of the rows, and `xn c`, which sums
the other half. Every semaphore of every device is a cell of one round. This module states the cells' duties, what each
duty's units hand to the cell's owner, what each device owes at launch, and the levels that order the waits.
-/
module

public import proofs.«01_k».proof.Proof.Steps
public import Idealize.ShloMosaic.Lib.Pipeline.Launch
public import Idealize.ShloMosaic.Lib.Pipeline.Kit
public import Idealize.ShloMosaic.Lib.Pipeline.Value

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ghost state: the launch's own rounds, and this kernel's with duties named by a Boolean. -/
abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The partners -/

set_option backward.proofsInPublic true in
/-- The partner holding the other block of the same half. -/
def zp (c : Dev nD) : Dev nD := ⟨c.val / 2 * 2 + (1 - c.val % 2), by have := c.isLt; simp only [nD] at *; omega⟩
set_option backward.proofsInPublic true in
/-- The partner summing the other half. -/
def xn (c : Dev nD) : Dev nD := ⟨(1 - c.val / 4) * 4 + c.val % 4, by have := c.isLt; simp only [nD] at *; omega⟩

theorem zp_zp (c : Dev nD) : zp (zp c) = c := by revert c; decide
theorem xn_xn (c : Dev nD) : xn (xn c) = c := by revert c; decide
theorem zp_half (c : Dev nD) : (zp c).val / 4 = c.val / 4 := by revert c; decide
theorem xn_half (c : Dev nD) : (xn c).val / 4 = 1 - c.val / 4 := by revert c; decide

/-- Where the kernel's signals and sends go. -/
theorem dev1_eq (c : Dev nD) : (⟨k0_dev1 c, k0_dev1_lt c⟩ : Dev nD) = zp c := by revert c; decide +kernel
theorem dev2_eq (c : Dev nD) : (⟨k0_dev2 c, k0_dev2_lt c⟩ : Dev nD) = xn c := by revert c; decide +kernel
theorem zDev_eq (c : Dev nD) (k : Fin 8) : zDev c k = zp c := by revert c k; decide +kernel
theorem xDev_eq (c : Dev nD) (k : Fin 8) : xDev c k = xn c := by revert c k; decide +kernel

def zpE : Dev nD ≃ Dev nD := ⟨zp, zp, zp_zp, zp_zp⟩
def xnE : Dev nD ≃ Dev nD := ⟨xn, xn, xn_xn, xn_xn⟩

/-! ## Contents -/

/-- Row `i` of half `h` of an array of 2048 rows. -/
def up (h : ℕ) (i : S1024x512.Idx) : S2048x512.Idx :=
  fun a => match a with
    | ⟨0, _⟩ => ⟨(1024 * h + (i 0).val) % 2048, Nat.mod_lt _ (by decide)⟩
    | ⟨1, _⟩ => i 1
/-- A row of an array of 2048 rows, within its half. -/
def down (i : S2048x512.Idx) : S1024x512.Idx :=
  fun a => match a with
    | ⟨0, _⟩ => ⟨(i 0).val % 1024, Nat.mod_lt _ (by decide)⟩
    | ⟨1, _⟩ => i 1

/-- Device `c`'s block. -/
def inp (c : Dev nD) : S2048x512.Idx → Elt F .f32 := m ((c : Thread nD τ).loc main_arg0)
/-- The half of it `c` sums. -/
def own (c : Dev nD) : S1024x512.Idx → Elt F .f32 := fun i => inp m c (up (c.val / 4) i)
/-- That half's sum: the partner's rows and `c`'s. -/
def tot (c : Dev nD) : S1024x512.Idx → Elt F .f32 := (addf (own m (zp c)) (own m c) : FVec F S1024x512 .f32)
/-- The result: each half's sum in its place. -/
def res (c : Dev nD) : S2048x512.Idx → Elt F .f32 :=
  fun i => if (i 0).val / 1024 = c.val / 4 then tot m c (down i) else tot m (xn c) (down i)

/-! ## Chunks of the buffers -/

/-- Chunk `k` of device `c`'s scratch buffers and arrays, at a share, with contents given for the whole buffer. -/
abbrev xAt (c : Dev nD) (k : Fin 8) (q : PosShare TreeShare) (f : S1024x512.Idx → Elt F .f32) : sProp 𝕄 :=
  (half xM k).view.loc (c : Thread nD τ) ↦[(half xM k).view.set]{q} f
abbrev sAt (c : Dev nD) (k : Fin 8) (q : PosShare TreeShare) (f : S1024x512.Idx → Elt F .f32) : sProp 𝕄 :=
  (half sM k).view.loc (c : Thread nD τ) ↦[(half sM k).view.set]{q} f
abbrev rAt (c : Dev nD) (k : Fin 8) (q : PosShare TreeShare) (f : S1024x512.Idx → Elt F .f32) : sProp 𝕄 :=
  (half rM k).view.loc (c : Thread nD τ) ↦[(half rM k).view.set]{q} f
abbrev aAt (c : Dev nD) (k : Fin 8) (f : S2048x512.Idx → Elt F .f32) : sProp 𝕄 :=
  (mine aM c k).view.loc (c : Thread nD τ) ↦[(mine aM c k).view.set]{fullShare} f
abbrev omAt (c : Dev nD) (k : Fin 8) (f : S2048x512.Idx → Elt F .f32) : sProp 𝕄 :=
  (mine oM c k).view.loc (c : Thread nD τ) ↦[(mine oM c k).view.set]{fullShare} f
abbrev ooAt (c : Dev nD) (k : Fin 8) (f : S2048x512.Idx → Elt F .f32) : sProp 𝕄 :=
  (other oM c k).view.loc (c : Thread nD τ) ↦[(other oM c k).view.set]{fullShare} f

/-- All chunks of a buffer, each at some contents. -/
def sAny (c : Dev nD) : sProp 𝕄 := bigSep Finset.univ fun k : Fin 8 => iprop(∃ f, sAt c k fullShare f)
def rAny (c : Dev nD) : sProp 𝕄 := bigSep Finset.univ fun k : Fin 8 => iprop(∃ f, rAt c k fullShare f)

/-! ## The cells -/

abbrev cell (c : Dev nD) (s : SemLoc sig) : GSem nD τ sig := ((c : Thread nD τ), s)
abbrev barCell (c : Dev nD) : GSem nD τ sig := cell c (.reg barS)

/-- The seven arrays of semaphores: fetches, first sends and their arrivals, second sends and their arrivals, the
    result's copies of either half. -/
abbrev cpS (k : Fin 8) : DmaSem sig := nth cc0_scratch3 k
abbrev zsS (k : Fin 8) : DmaSem sig := nth cc0_scratch4 k
abbrev zrS (k : Fin 8) : DmaSem sig := nth cc0_scratch5 k
abbrev xsS (k : Fin 8) : DmaSem sig := nth cc0_scratch6 k
abbrev xrS (k : Fin 8) : DmaSem sig := nth cc0_scratch7 k
abbrev wmS (k : Fin 8) : DmaSem sig := nth cc0_scratch8 k
abbrev woS (k : Fin 8) : DmaSem sig := nth cc0_scratch9 k

set_option backward.proofsInPublic true in
/-- Which array a semaphore is of, and which chunk's it is. -/
def fam (s : DmaSem sig) : Fin 7 := ⟨s.val / 8, by have h : s.val < 56 := s.isLt; omega⟩
set_option backward.proofsInPublic true in
def chk (s : DmaSem sig) : Fin 8 := ⟨s.val % 8, Nat.mod_lt _ (by decide)⟩

theorem cp_cls (k : Fin 8) : fam (cpS k) = 0 ∧ chk (cpS k) = k := by revert k; decide +kernel
theorem zs_cls (k : Fin 8) : fam (zsS k) = 1 ∧ chk (zsS k) = k := by revert k; decide +kernel
theorem zr_cls (k : Fin 8) : fam (zrS k) = 2 ∧ chk (zrS k) = k := by revert k; decide +kernel
theorem xs_cls (k : Fin 8) : fam (xsS k) = 3 ∧ chk (xsS k) = k := by revert k; decide +kernel
theorem xr_cls (k : Fin 8) : fam (xrS k) = 4 ∧ chk (xrS k) = k := by revert k; decide +kernel
theorem wm_cls (k : Fin 8) : fam (wmS k) = 5 ∧ chk (wmS k) = k := by revert k; decide +kernel
theorem wo_cls (k : Fin 8) : fam (woS k) = 6 ∧ chk (woS k) = k := by revert k; decide +kernel

theorem cls_inj {s t : DmaSem sig} (h : fam s = fam t) (h' : chk s = chk t) : s = t := by
  have h := congrArg Fin.val h; have h' := congrArg Fin.val h'
  simp only [fam, chk] at h h'; exact Fin.ext (by omega)

/-- What a transfer of chunk `k` credits. -/
abbrev N (k : Fin 8) : ℕ := (half xM k).view.dmaCredit
theorem numel_pos (k : Fin 8) : 0 < (Sc k).numel := by
  fin_cases k <;> first
    | exact h_S256x512 | exact h_S224x512 | exact h_S192x512 | exact h_S128x512
    | exact h_S96x512 | exact h_S64x512 | exact h_S40x512 | exact h_S24x512
theorem N_pos (k : Fin 8) : 0 < N k := View.dmaCredit_pos _ (numel_pos k)
/-- The credit is the same wherever the chunk lands. -/
theorem N_s (k : Fin 8) : (half sM k).view.dmaCredit = N k := rfl
theorem N_r (k : Fin 8) : (half rM k).view.dmaCredit = N k := rfl
theorem N_m (c : Dev nD) (k : Fin 8) : (mine oM c k).view.dmaCredit = N k := rfl
theorem N_o (c : Dev nD) (k : Fin 8) : (other oM c k).view.dmaCredit = N k := rfl

/-! ## The schedule -/

/-- What the units of `c`'s semaphore `(j, k)` hand to `c`: a copy's or send's source back, and what arrived. -/
def pay (c : Dev nD) (j : Fin 7) (k : Fin 8) : sProp 𝕄 := match j with
  | 0 => iprop(xAt c k fullShare (own m c) ∗ aAt c k (inp m c))
  | 1 => xAt c k fullShare.right (own m c)
  | 2 => sAt c k fullShare (own m (zp c))
  | 3 => sAt c k fullShare.right (tot m c)
  | 4 => rAt c k fullShare (tot m (xn c))
  | 5 => iprop(omAt c k (res m c) ∗ sAt c k fullShare.left (tot m c))
  | 6 => iprop(ooAt c k (res m c) ∗ rAt c k fullShare (tot m (xn c)))

/-- One round. A barrier cell has two duties of one unit: `false` is `zp c`'s and hands `c` that device's buffer of
    sums, `true` is `xn c`'s and hands `c` that device's buffer of received sums. A transfer's cell has one duty. -/
def Rd : Rounds.Schedule (GSem nD τ sig) Bool 𝕄 where
  duties g r := if r = 0 ∧ g.1.2 = .tc then (match g.2 with | .reg _ => Finset.univ | .dma _ => {false}) else ∅
  unitless _ := False
  amount g _ _ := match g.2 with | .reg _ => 1 | .dma s => N (chk s)
  payload g _ d := match g.2 with
    | .reg _ => if d then rAny (xn g.1.1) else sAny (zp g.1.1)
    | .dma s => pay m g.1.1 (fam s) (chk s)
  amount_pos g _ _ _ := by
    rcases g.2 with s | s
    · exact Nat.one_pos
    · exact N_pos _

omit [FloatOps F] in
instance sAny_storable (c : Dev nD) : BI.Storable (upEmb : UEmb _ 𝕄) (sAny (F := F) c) := by unfold sAny; infer_instance
omit [FloatOps F] in
instance rAny_storable (c : Dev nD) : BI.Storable (upEmb : UEmb _ 𝕄) (rAny (F := F) c) := by unfold rAny; infer_instance
instance pay_storable (c : Dev nD) (j : Fin 7) (k : Fin 8) : BI.Storable (upEmb : UEmb _ 𝕄) (pay m c j k) := by
  unfold pay; split <;> infer_instance
instance Rd_storable (g : GSem nD τ sig) (r : ℕ) (d : Bool) : BI.Storable (upEmb : UEmb _ 𝕄) ((Rd m).payload g r d) := by
  obtain ⟨⟨c, p⟩, s | s⟩ := g
  · show BI.Storable upEmb (if d then rAny (xn c) else sAny (zp c)); split <;> infer_instance
  · show BI.Storable upEmb (pay m c (fam s) (chk s)); infer_instance

section Tables
variable (c : Dev nD) (s : DmaSem sig)

theorem duties_bar : (Rd m).duties (barCell c) 0 = Finset.univ := by dsimp only [Rd]; exact if_pos ⟨rfl, rfl⟩
theorem duties_dma : (Rd m).duties (cell c (.dma s)) 0 = {false} := by dsimp only [Rd]; exact if_pos ⟨rfl, rfl⟩
theorem mem_dma : false ∈ (Rd m).duties (cell c (.dma s)) 0 := by rw [duties_dma]; exact Finset.mem_singleton_self _
theorem duties_later (g : GSem nD τ sig) : ∀ r, 1 ≤ r → (Rd m).duties g r = ∅ :=
  fun r hr => by dsimp only [Rd]; rw [if_neg fun h => by omega]
theorem amount_bar (d : Bool) : (Rd m).amount (barCell c) 0 d = 1 := rfl
theorem amount_dma (d : Bool) : (Rd m).amount (cell c (.dma s)) 0 d = N (chk s) := rfl
theorem expect_bar : (Rd m).expect (barCell c) 0 = 2 := by
  unfold Schedule.expect Schedule.amountOf
  rw [duties_bar, Finset.sum_congr rfl fun d _ => amount_bar m c d, Finset.sum_const, Finset.card_univ, Fintype.card_bool, smul_eq_mul]
theorem expect_dma : (Rd m).expect (cell c (.dma s)) 0 = N (chk s) := by
  unfold Schedule.expect Schedule.amountOf; rw [duties_dma, Finset.sum_singleton, amount_dma]
theorem payload_bar_true : (Rd m).payload (barCell c) 0 true = rAny (xn c) := rfl
theorem payload_bar_false : (Rd m).payload (barCell c) 0 false = sAny (zp c) := rfl
theorem payload_dma (d : Bool) : (Rd m).payload (cell c (.dma s)) 0 d = pay m c (fam s) (chk s) := rfl
/-- What the barrier's wait brings: both partners' buffers. -/
theorem rest_bar : bigSep ((Rd m).duties (barCell c) 0 \ ∅) (fun d => (Rd m).payload (barCell c) 0 d) = iprop(sAny (zp c) ∗ rAny (xn c)) := by
  rw [Finset.sdiff_empty, duties_bar, bigSep_univ_eq_bigSepL [false, true] (by decide) (by decide), bigSepL_cons_cons, bigSepL_singleton]
  rfl
/-- What a transfer's wait brings. -/
theorem rest_dma : bigSep ((Rd m).duties (cell c (.dma s)) 0 \ ∅) (fun d => (Rd m).payload (cell c (.dma s)) 0 d) = pay m c (fam s) (chk s) := by
  rw [Finset.sdiff_empty, duties_dma, bigSep_singleton, payload_dma]
end Tables

/-! ## What each device owes, and the levels -/

/-- Device `c` owes `zp c` the arrival of the chunks `S` of its rows, `xn c` that of the chunks `S'` of its sum. -/
def owedS (c : Dev nD) (S S' : Finset (Fin 8)) : CellTallies nD τ sig Unit :=
  (∑ k ∈ S, tallyAt (cell (zp c) (.dma (zrS k))) () (N k)) + ∑ k ∈ S', tallyAt (cell (xn c) (.dma (xrS k))) () (N k)
/-- At launch: all of them, and a unit to each partner's barrier, `zp c`'s paid first. -/
def O₁ (c : Dev nD) : CellTallies nD τ sig Unit := owedS c Finset.univ Finset.univ + tallyAt (barCell (xn c)) () 1
def O₀ (c : Dev nD) : CellTallies nD τ sig Unit := O₁ c + tallyAt (barCell (zp c)) () 1

theorem owedS_z (c : Dev nD) {S : Finset (Fin 8)} (S' : Finset (Fin 8)) {k : Fin 8} (h : k ∈ S) :
    owedS c S S' = owedS c (S.erase k) S' + tallyAt (cell (zp c) (.dma (zrS k))) () (N k) := by
  unfold owedS; rw [← Finset.sum_erase_add S _ h]; exact add_right_comm _ _ _
theorem owedS_x (c : Dev nD) (S : Finset (Fin 8)) {S' : Finset (Fin 8)} {k : Fin 8} (h : k ∈ S') :
    owedS c S S' = owedS c S (S'.erase k) + tallyAt (cell (xn c) (.dma (xrS k))) () (N k) := by
  unfold owedS; rw [← Finset.sum_erase_add S' _ h]; exact (add_assoc _ _ _).symm
theorem owedS_empty (c : Dev nD) : owedS c ∅ ∅ = 0 := by unfold owedS; rw [Finset.sum_empty, Finset.sum_empty, add_zero]

def L (g : GSem nD τ sig) : Finset Unit := if g.1.2 = .tc then {()} else ∅
/-- The barrier at 1, the first arrivals at 2, the second arrivals at 3, everything a device pays itself at 0. -/
def lv (g : GSem nD τ sig) (_ : Unit) : ℕ := match g.2 with
  | .reg _ => 1
  | .dma s => match fam s with | 2 => 2 | 4 => 3 | _ => 0

theorem L_of_ne (g : GSem nD τ sig) (h : g.1.2 ≠ .tc) : L g = ∅ := if_neg h
theorem L_tc (c : Dev nD) (s : SemLoc sig) : L (cell c s) = {()} := if_pos rfl
theorem lv_zr (c : Dev nD) (k : Fin 8) : lv (cell c (.dma (zrS k))) () = 2 := by dsimp only [lv]; rw [(zr_cls k).1]; rfl
theorem lv_xr (c : Dev nD) (k : Fin 8) : lv (cell c (.dma (xrS k))) () = 3 := by dsimp only [lv]; rw [(xr_cls k).1]; rfl

theorem owedS_pos {c : Dev nD} {S S' : Finset (Fin 8)} {g : GSem nD τ sig} {u : Unit} (h : 0 < owedS c S S' g u) :
    (∃ k ∈ S, g = cell (zp c) (.dma (zrS k))) ∨ ∃ k ∈ S', g = cell (xn c) (.dma (xrS k)) := by
  unfold owedS at h
  rw [Pi.add_apply, Finsupp.add_apply, Finset.sum_apply, Finset.sum_apply, Finsupp.finset_sum_apply, Finsupp.finset_sum_apply] at h
  by_contra hn
  rw [not_or] at hn
  rw [Finset.sum_eq_zero (fun k hk => by rw [tallyAt_apply, if_neg fun h' => hn.1 ⟨k, hk, h'.1⟩]),
    Finset.sum_eq_zero (fun k hk => by rw [tallyAt_apply, if_neg fun h' => hn.2 ⟨k, hk, h'.1⟩])] at h
  exact Nat.lt_irrefl 0 h

/-- A device may wait at a cell of level `n` if it owes first arrivals only when `n < 2`, second arrivals only when
    `n < 3`. -/
theorem mayWait (c : Dev nD) (s : SemLoc sig) (S S' : Finset (Fin 8)) (hS : S ≠ ∅ → lv (cell c s) () < 2) (hS' : S' ≠ ∅ → lv (cell c s) () < 3) :
    (levAts L lv : sProp 𝕄) ⊢ MayWait (c : Thread nD τ) s () (owedS c S S') :=
  MayOwe.of_cut (L := L) (lev := lv) (lv (cell c s) ()) (fun p hp => by rw [Finset.mem_singleton.mp hp, L_tc]; exact Finset.mem_singleton_self _)
    (fun g u hg => by rcases owedS_pos hg with ⟨k, -, rfl⟩ | ⟨k, -, rfl⟩ <;> exact Finset.mem_singleton_self _)
    (fun p hp => by rw [Finset.mem_singleton.mp hp])
    (fun g u hg => by
      rcases owedS_pos hg with ⟨k, hk, rfl⟩ | ⟨k, hk, rfl⟩
      · have := lv_zr (zp c) k; rw [this]; exact hS (Finset.ne_empty_of_mem hk)
      · have := lv_xr (xn c) k; rw [this]; exact hS' (Finset.ne_empty_of_mem hk))

end Cert.AllReduce

end
-- ==== Proof.Chunks.lean ====
/-
# 01_k — a buffer is its chunks, and what a copied chunk holds

The three scratch buffers split into eight chunks, the two arrays into the eight chunks of either half. A chunk copied
into a buffer holds, there, whatever whole contents agree with the source chunk row by row.
-/
module

public import proofs.«01_k».proof.Proof.Schedule

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The chunks partition the rows -/

/-- Every row of a half is in some chunk. -/
theorem chunk_of (r : ℕ) (h : r < 1024) : ∃ k : Fin 8, start k ≤ r ∧ r < start k + rows k := by
  rcases lt_or_ge r 256 with h0 | h0; · exact ⟨0, Nat.zero_le _, h0⟩
  rcases lt_or_ge r 480 with h1 | h1; · exact ⟨1, h0, h1⟩
  rcases lt_or_ge r 672 with h2 | h2; · exact ⟨2, h1, h2⟩
  rcases lt_or_ge r 800 with h3 | h3; · exact ⟨3, h2, h3⟩
  rcases lt_or_ge r 896 with h4 | h4; · exact ⟨4, h3, h4⟩
  rcases lt_or_ge r 960 with h5 | h5; · exact ⟨5, h4, h5⟩
  rcases lt_or_ge r 1000 with h6 | h6; · exact ⟨6, h5, h6⟩
  exact ⟨7, h6, h⟩

/-- Two chunks are apart. -/
theorem chunk_sep (k l : Fin 8) (h : k ≠ l) : start k + rows k ≤ start l ∨ start l + rows l ≤ start k := by
  revert k l; decide

theorem chunk_le (k : Fin 8) : start k + rows k ≤ 1024 := by revert k; decide

theorem mem_rc {k : Fin 8} {i : S1024x512.Idx} : i ∈ (rc k).set ↔ start k ≤ (i 0).val ∧ (i 0).val < start k + rows k := by
  rw [Rect.mem_set_unit]
  exact Fin.forall_fin_two.trans ⟨fun h => h.1, fun h => ⟨h, Nat.zero_le _, by have := (i 1).isLt; simpa using this⟩⟩

theorem mem_rMine {c : Dev nD} {k : Fin 8} {i : S2048x512.Idx} :
    i ∈ (rMine c k).set ↔ 1024 * (c.val / 4) + start k ≤ (i 0).val ∧ (i 0).val < 1024 * (c.val / 4) + start k + rows k := by
  rw [Rect.mem_set_unit]
  refine Fin.forall_fin_two.trans ?_
  rw [offMine_eq]
  exact ⟨fun h => h.1, fun h => ⟨h, Nat.zero_le _, by have := (i 1).isLt; simpa using this⟩⟩

theorem mem_rOther {c : Dev nD} {k : Fin 8} {i : S2048x512.Idx} :
    i ∈ (rOther c k).set ↔ 1024 * (1 - c.val / 4) + start k ≤ (i 0).val ∧ (i 0).val < 1024 * (1 - c.val / 4) + start k + rows k := by
  rw [Rect.mem_set_unit]
  refine Fin.forall_fin_two.trans ?_
  rw [offOther_eq]
  exact ⟨fun h => h.1, fun h => ⟨h, Nat.zero_le _, by have := (i 1).isLt; simpa using this⟩⟩

theorem rc_disj (k l : Fin 8) (h : k ≠ l) : Disjoint (rc k).set (rc l).set :=
  Finset.disjoint_left.mpr fun i hi hj => by
    have := chunk_sep k l h; rw [mem_rc] at hi hj; omega
theorem rc_cover : Finset.univ.biUnion (fun k => (rc k).set) = Finset.univ := by
  refine Finset.eq_univ_of_forall fun i => ?_
  obtain ⟨k, hk⟩ := chunk_of (i 0).val (i 0).isLt
  exact Finset.mem_biUnion.mpr ⟨k, Finset.mem_univ _, mem_rc.mpr hk⟩

theorem rMine_disj (c : Dev nD) (k l : Fin 8) (h : k ≠ l) : Disjoint (rMine c k).set (rMine c l).set :=
  Finset.disjoint_left.mpr fun i hi hj => by
    have := chunk_sep k l h; rw [mem_rMine] at hi hj; omega
theorem rOther_disj (c : Dev nD) (k l : Fin 8) (h : k ≠ l) : Disjoint (rOther c k).set (rOther c l).set :=
  Finset.disjoint_left.mpr fun i hi hj => by
    have := chunk_sep k l h; rw [mem_rOther] at hi hj; omega
theorem halves_disj (c : Dev nD) :
    Disjoint (Finset.univ.biUnion fun k => (rMine c k).set) (Finset.univ.biUnion fun k => (rOther c k).set) :=
  Finset.disjoint_left.mpr fun i hi hj => by
    obtain ⟨k, -, hk⟩ := Finset.mem_biUnion.mp hi
    obtain ⟨l, -, hl⟩ := Finset.mem_biUnion.mp hj
    have hc : c.val < 8 := c.isLt
    have := chunk_le k; have := chunk_le l
    rw [mem_rMine] at hk; rw [mem_rOther] at hl
    omega
theorem halves_cover (c : Dev nD) :
    (Finset.univ.biUnion fun k => (rMine c k).set) ∪ (Finset.univ.biUnion fun k => (rOther c k).set) = Finset.univ := by
  refine Finset.eq_univ_of_forall fun i => ?_
  have hi : (i 0).val < 2048 := (i 0).isLt
  have hc : c.val < 8 := c.isLt
  obtain ⟨k, hk⟩ := chunk_of ((i 0).val % 1024) (Nat.mod_lt _ (by decide))
  rw [Finset.mem_union]
  by_cases h : (i 0).val / 1024 = c.val / 4
  · exact .inl (Finset.mem_biUnion.mpr ⟨k, Finset.mem_univ _, mem_rMine.mpr (by omega)⟩)
  · exact .inr (Finset.mem_biUnion.mpr ⟨k, Finset.mem_univ _, mem_rOther.mpr (by omega)⟩)

omit [FloatOps F] in
/-- A scratch buffer at a share is its chunks at that share. -/
theorem xAt_all (c : Dev nD) (q : PosShare TreeShare) (f : S1024x512.Idx → Elt F .f32) :
    (((c : Thread nD τ).loc cc0_scratch0) ↦{q} (f : Buf (Elt F) ((c : Thread nD τ).loc cc0_scratch0)) : sProp 𝕄) = bigSep Finset.univ fun k => xAt c k q f := by
  refine Eq.trans ?_ (pointsTo_biUnion (ℓ := (c : Thread nD τ).loc cc0_scratch0) Finset.univ (fun k : Fin 8 => (half xM k).view.set) ?_)
  · rw [show (Finset.univ.biUnion fun k : Fin 8 => (half xM k).view.set) = Finset.univ from
      (Finset.biUnion_congr rfl fun k _ => View.set_slice_whole _ _).trans rc_cover]
  · intro k _ l _ h; rw [View.set_slice_whole, View.set_slice_whole]; exact rc_disj k l h
omit [FloatOps F] in
theorem sAt_all (c : Dev nD) (q : PosShare TreeShare) (f : S1024x512.Idx → Elt F .f32) :
    (((c : Thread nD τ).loc cc0_scratch1) ↦{q} (f : Buf (Elt F) ((c : Thread nD τ).loc cc0_scratch1)) : sProp 𝕄) = bigSep Finset.univ fun k => sAt c k q f := by
  refine Eq.trans ?_ (pointsTo_biUnion (ℓ := (c : Thread nD τ).loc cc0_scratch1) Finset.univ (fun k : Fin 8 => (half sM k).view.set) ?_)
  · rw [show (Finset.univ.biUnion fun k : Fin 8 => (half sM k).view.set) = Finset.univ from
      (Finset.biUnion_congr rfl fun k _ => View.set_slice_whole _ _).trans rc_cover]
  · intro k _ l _ h; rw [View.set_slice_whole, View.set_slice_whole]; exact rc_disj k l h
omit [FloatOps F] in
theorem rAt_all (c : Dev nD) (q : PosShare TreeShare) (f : S1024x512.Idx → Elt F .f32) :
    (((c : Thread nD τ).loc cc0_scratch2) ↦{q} (f : Buf (Elt F) ((c : Thread nD τ).loc cc0_scratch2)) : sProp 𝕄) = bigSep Finset.univ fun k => rAt c k q f := by
  refine Eq.trans ?_ (pointsTo_biUnion (ℓ := (c : Thread nD τ).loc cc0_scratch2) Finset.univ (fun k : Fin 8 => (half rM k).view.set) ?_)
  · rw [show (Finset.univ.biUnion fun k : Fin 8 => (half rM k).view.set) = Finset.univ from
      (Finset.biUnion_congr rfl fun k _ => View.set_slice_whole _ _).trans rc_cover]
  · intro k _ l _ h; rw [View.set_slice_whole, View.set_slice_whole]; exact rc_disj k l h

omit [FloatOps F] in
/-- The chunks of one half of an array, together. -/
theorem om_join (c : Dev nD) (f : S2048x512.Idx → Elt F .f32) :
    (bigSep Finset.univ fun k => omAt c k f)
      = (((c : Thread nD τ).loc main_v1) ↦[Finset.univ.biUnion fun k => (rMine c k).set]{fullShare} (f : Buf (Elt F) ((c : Thread nD τ).loc main_v1)) : sProp 𝕄) := by
  rw [← show (Finset.univ.biUnion fun k : Fin 8 => (mine oM c k).view.set) = Finset.univ.biUnion fun k => (rMine c k).set from
    Finset.biUnion_congr rfl fun k _ => View.set_slice_whole _ _]
  exact (pointsTo_biUnion (ℓ := (c : Thread nD τ).loc main_v1) Finset.univ (fun k : Fin 8 => (mine oM c k).view.set)
    (fun k _ l _ h => by rw [View.set_slice_whole, View.set_slice_whole]; exact rMine_disj c k l h)).symm
omit [FloatOps F] in
theorem oo_join (c : Dev nD) (f : S2048x512.Idx → Elt F .f32) :
    (bigSep Finset.univ fun k => ooAt c k f)
      = (((c : Thread nD τ).loc main_v1) ↦[Finset.univ.biUnion fun k => (rOther c k).set]{fullShare} (f : Buf (Elt F) ((c : Thread nD τ).loc main_v1)) : sProp 𝕄) := by
  rw [← show (Finset.univ.biUnion fun k : Fin 8 => (other oM c k).view.set) = Finset.univ.biUnion fun k => (rOther c k).set from
    Finset.biUnion_congr rfl fun k _ => View.set_slice_whole _ _]
  exact (pointsTo_biUnion (ℓ := (c : Thread nD τ).loc main_v1) Finset.univ (fun k : Fin 8 => (other oM c k).view.set)
    (fun k _ l _ h => by rw [View.set_slice_whole, View.set_slice_whole]; exact rOther_disj c k l h)).symm
omit [FloatOps F] in
theorem a_join (c : Dev nD) (f : S2048x512.Idx → Elt F .f32) :
    (bigSep Finset.univ fun k => aAt c k f)
      = (((c : Thread nD τ).loc main_arg0) ↦[Finset.univ.biUnion fun k => (rMine c k).set]{fullShare} (f : Buf (Elt F) ((c : Thread nD τ).loc main_arg0)) : sProp 𝕄) := by
  rw [← show (Finset.univ.biUnion fun k : Fin 8 => (mine aM c k).view.set) = Finset.univ.biUnion fun k => (rMine c k).set from
    Finset.biUnion_congr rfl fun k _ => View.set_slice_whole _ _]
  exact (pointsTo_biUnion (ℓ := (c : Thread nD τ).loc main_arg0) Finset.univ (fun k : Fin 8 => (mine aM c k).view.set)
    (fun k _ l _ h => by rw [View.set_slice_whole, View.set_slice_whole]; exact rMine_disj c k l h)).symm

omit [FloatOps F] in
/-- The result's array is the chunks of both halves. -/
theorem out_all (c : Dev nD) (f : S2048x512.Idx → Elt F .f32) :
    (((c : Thread nD τ).loc main_v1) ↦{fullShare} (f : Buf (Elt F) ((c : Thread nD τ).loc main_v1)) : sProp 𝕄)
      ⊣⊢ iprop((bigSep Finset.univ fun k => omAt c k f) ∗ bigSep Finset.univ fun k => ooAt c k f) := by
  rw [om_join, oo_join, ← halves_cover c]
  exact pointsTo_union (halves_disj c)

/-- What of the argument's array the kernel does not touch. -/
abbrev aRest (c : Dev nD) (f : S2048x512.Idx → Elt F .f32) : sProp 𝕄 :=
  ((c : Thread nD τ).loc main_arg0) ↦[Finset.univ.biUnion fun k => (rOther c k).set]{fullShare} (f : Buf (Elt F) ((c : Thread nD τ).loc main_arg0))

omit [FloatOps F] in
/-- The argument's array is the chunks of its own half and the rest. -/
theorem arg_all (c : Dev nD) (f : S2048x512.Idx → Elt F .f32) :
    (((c : Thread nD τ).loc main_arg0) ↦{fullShare} (f : Buf (Elt F) ((c : Thread nD τ).loc main_arg0)) : sProp 𝕄)
      ⊣⊢ iprop((bigSep Finset.univ fun k => aAt c k f) ∗ aRest c f) := by
  rw [a_join, ← halves_cover c]
  exact pointsTo_union (halves_disj c)

/-! ## What a written chunk holds -/

omit [FloatOps F] in
/-- A view written whole holds any contents that agree with what was written. -/
theorem written {sp : Space} {s : Shape} (v : View sig .tc sp s .f32) (c : Dev nD) (q : PosShare TreeShare) (fd : Buf (Elt F) (v.loc (c : Thread nD τ)))
    (w : s.Idx → Elt F .f32) (G : Buf (Elt F) (v.loc (c : Thread nD τ)))
    (h : ∀ x, G (v.emb x) = cast (congrArg (Elt F) v.elt_eq.symm) (w x)) :
    (v.loc (c : Thread nD τ) ↦[v.set]{q} v.write (Elt F) fd w Finset.univ : sProp 𝕄) = v.loc (c : Thread nD τ) ↦[v.set]{q} G :=
  pointsTo_congr fun i hi => by
    obtain ⟨x, -, rfl⟩ := Finset.mem_map.mp hi
    exact (View.write_emb_of_mem _ _ (Finset.mem_univ x)).trans (h x).symm

/-- Chunk `k` of a half, placed in the array, is the chunk of that half. -/
theorem up_rc (c : Dev nD) (k : Fin 8) (x : (Sc k).Idx) : up (c.val / 4) ((rc k).emb x) = (rMine c k).emb x := by
  have hc : c.val < 8 := c.isLt
  have hx : (x 0).val < rows k := (x 0).isLt
  have := chunk_le k
  funext a
  refine Fin.ext ?_
  match a with
  | ⟨0, _⟩ =>
    show (1024 * (c.val / 4) + (start k + 1 * (x 0).val)) % 2048 = offMine c k 0 + 1 * (x 0).val
    rw [offMine_eq]; show _ = 1024 * (c.val / 4) + start k + 1 * (x 0).val
    omega
  | ⟨1, _⟩ =>
    show 0 + 1 * (x 1).val = offMine c k 1 + 1 * (x 1).val
    rw [offMine_eq]; rfl

/-- The fetched chunk. -/
theorem own_rc (c : Dev nD) (k : Fin 8) (x : (Sc k).Idx) : own m c ((rc k).emb x) = inp m c ((rMine c k).emb x) :=
  congrArg (inp m c) (up_rc c k x)

/-- The result's chunk of the half `c` sums. -/
theorem res_mine (c : Dev nD) (k : Fin 8) (x : (Sc k).Idx) : res m c ((rMine c k).emb x) = tot m c ((rc k).emb x) := by
  have hc : c.val < 8 := c.isLt
  have hx : (x 0).val < rows k := (x 0).isLt
  have := chunk_le k
  have h0 : ((rMine c k).emb x 0).val = 1024 * (c.val / 4) + start k + (x 0).val := by
    show offMine c k 0 + 1 * (x 0).val = _
    rw [offMine_eq]; show 1024 * (c.val / 4) + start k + 1 * (x 0).val = _; omega
  unfold res
  rw [if_pos (by omega)]
  refine congrArg (tot m c) (funext fun a => Fin.ext ?_)
  match a with
  | ⟨0, _⟩ => show ((rMine c k).emb x 0).val % 1024 = start k + 1 * (x 0).val; omega
  | ⟨1, _⟩ => show offMine c k 1 + 1 * (x 1).val = 0 + 1 * (x 1).val; rw [offMine_eq]; rfl

/-- The result's chunk of the other half. -/
theorem res_other (c : Dev nD) (k : Fin 8) (x : (Sc k).Idx) : res m c ((rOther c k).emb x) = tot m (xn c) ((rc k).emb x) := by
  have hc : c.val < 8 := c.isLt
  have hx : (x 0).val < rows k := (x 0).isLt
  have := chunk_le k
  have h0 : ((rOther c k).emb x 0).val = 1024 * (1 - c.val / 4) + start k + (x 0).val := by
    show offOther c k 0 + 1 * (x 0).val = _
    rw [offOther_eq]; show 1024 * (1 - c.val / 4) + start k + 1 * (x 0).val = _; omega
  unfold res
  rw [if_neg (by omega)]
  refine congrArg (tot m (xn c)) (funext fun a => Fin.ext ?_)
  match a with
  | ⟨0, _⟩ => show ((rOther c k).emb x 0).val % 1024 = start k + 1 * (x 0).val; omega
  | ⟨1, _⟩ => show offOther c k 1 + 1 * (x 1).val = 0 + 1 * (x 1).val; rw [offOther_eq]; rfl

/-- The stored chunk is the chunk of the sum. -/
theorem tot_rc (c : Dev nD) (k : Fin 8) (x : (Sc k).Idx) :
    tot m c ((rc k).emb x) = addC k (fun x => own m (zp c) ((rc k).emb x)) (fun x => own m c ((rc k).emb x)) x := by
  unfold addC; rw [shapeCast_self]; rfl

end Cert.AllReduce

end
-- ==== Proof.Body.lean ====
/-
# 01_k — the kernel on one device, step by step

Each step of the kernel is taken once, at an arbitrary chunk `k` of an arbitrary device `c`: what it needs, and what it
leaves. `wp_each` strings a step along the eight chunks, and `work_spec` strings the loops together.
-/
module

public import proofs.«01_k».proof.Proof.Chunks

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-- A program of device `c` run to a postcondition. -/
abbrev Run {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

theorem ret_spec {α : Type} (c : Dev nD) (x : α) (Q : α → sProp 𝕄) : Q x ⊢ Run c (Prog.ret x) Q := by
  unfold Run; rw [wp_ret]; iintro H; imodintro; iexact H

theorem bind_spec {α β : Type} (c : Dev nD) (p : Prog (TpuEff nD τ sig (Elt F) Λ₀ .tc) α) (k : α → Prog (TpuEff nD τ sig (Elt F) Λ₀ .tc) β) (Q : β → sProp 𝕄) :
    Run c p (fun x => Run c (k x) Q) ⊢ Run c (p >>= k) Q := by
  unfold Run; rw [wp_bind]

/-! ## What every step keeps -/

/-- Every cell's invariant, under the names `K`, and that every cell has reached its round. -/
def records (K : Dev nD × SemLoc sig → ℕ) : sProp 𝕄 :=
  iprop((bigSep Finset.univ fun g : Dev nD × SemLoc sig => cellInv ER (Rd m) (K g) (cell g.1 g.2))
    ∗ bigSep Finset.univ fun g : Dev nD × SemLoc sig => reached ER (cell g.1 g.2) 0)

instance records_persistent (K : Dev nD × SemLoc sig → ℕ) : BI.Persistent (records m K) := by unfold records; infer_instance

variable (K : Dev nD × SemLoc sig → ℕ)

theorem inv_at (c : Dev nD) (s : SemLoc sig) : records m K ⊢ cellInv ER (Rd m) (K (c, s)) (cell c s) := by
  have h : (bigSep Finset.univ fun g : Dev nD × SemLoc sig => (cellInv ER (Rd m) (K g) (cell g.1 g.2) : sProp 𝕄)) ⊢ cellInv ER (Rd m) (K (c, s)) (cell c s) :=
    bigSep_elim (Finset.mem_univ (c, s))
  unfold records; iintro ⟨H, -⟩
  iapply h; iexact H
theorem reached_at (c : Dev nD) (s : SemLoc sig) : records m K ⊢ reached ER (cell c s) 0 := by
  have h : (bigSep Finset.univ fun g : Dev nD × SemLoc sig => (reached ER (cell g.1 g.2) 0 : sProp 𝕄)) ⊢ reached ER (cell c s) 0 :=
    bigSep_elim (Finset.mem_univ (c, s))
  unfold records; iintro ⟨-, H⟩
  iapply h; iexact H

/-- The cells' records, the levels, and what device `c` still owes. -/
def Inv (c : Dev nD) (S S' : Finset (Fin 8)) : sProp 𝕄 :=
  iprop(records m K ∗ levAts L lv ∗ ∃ W, owes (c : Thread nD τ) (owedS c S S') W)

/-- The duty `d` of a cell, unpaid; the owner's place before its round; the credit for a chunk's transfer. -/
abbrev tok (c : Dev nD) (s : DmaSem sig) : sProp 𝕄 := dutyTok ER (cell c (.dma s)) 0 false
abbrev place (c : Dev nD) (s : DmaSem sig) : sProp 𝕄 := atPos ER (cell c (.dma s)) 0 ∅ 0
abbrev due (c : Dev nD) (s : DmaSem sig) (k : Fin 8) : sProp 𝕄 := cred (tallyAt (cell c (.dma s)) () (N k))
abbrev zero (c : Dev nD) (s : DmaSem sig) : sProp 𝕄 := semVal (cell c (.dma s)) 0

/-! ## Loops -/

/-- A step run along a list of chunks. -/
def runs (f : Fin 8 → P (F := F)) : List (Fin 8) → P (F := F)
  | [] => Prog.ret ⟨⟩
  | k :: l => f k >>= fun _ => runs f l

theorem bind_ret' {α : Type} (p : Prog (TpuEff nD τ sig (Elt F) Λ₀ .tc) α) : (p >>= fun x => Prog.ret x) = p := bind_pure p

theorem each_eq (f : Fin 8 → P (F := F)) : each f = runs f [0, 1, 2, 3, 4, 5, 6, 7] := by
  simp only [runs, each]
  rw [show (f 7 >>= fun _ => (Prog.ret ⟨⟩ : P (F := F))) = f 7 from bind_ret' (f 7)]

theorem wp_runs (c : Dev nD) (f : Fin 8 → P (F := F)) (J : Finset (Fin 8) → sProp 𝕄) (A B : Fin 8 → sProp 𝕄)
    (h : ∀ k S (Q : PUnit.{1} → sProp 𝕄), k ∈ S → iprop(J S ∗ A k ∗ ((J (S.erase k) ∗ B k) -∗ Q ⟨⟩)) ⊢ Run c (f k) Q) (Q : PUnit.{1} → sProp 𝕄) :
    ∀ l : List (Fin 8), l.Nodup →
      iprop(J l.toFinset ∗ bigSep l.toFinset A ∗ ((J ∅ ∗ bigSep l.toFinset B) -∗ Q ⟨⟩)) ⊢ Run c (runs f l) Q
  | [], _ => by
    unfold Run
    rw [runs, wp_ret, List.toFinset_nil, bigSep_empty, bigSep_empty]
    iintro ⟨HJ, -, Hk⟩
    imodintro; iapply Hk
    isplitl [HJ]; · iexact HJ
    iempintro
  | k :: l, hl => by
    have hk : k ∉ l.toFinset := fun hk => (List.nodup_cons.mp hl).1 (List.mem_toFinset.mp hk)
    have hi (Φ : Fin 8 → sProp 𝕄) : bigSep (insert k l.toFinset) Φ = iprop(Φ k ∗ bigSep l.toFinset Φ) := bigSep_insert hk
    unfold Run
    rw [runs, wp_bind, List.toFinset_cons, hi, hi]
    iintro ⟨HJ, ⟨HA, HAs⟩, Hk⟩
    iapply (h k (insert k l.toFinset) _ (Finset.mem_insert_self _ _))
    isplitl [HJ]; · iexact HJ
    isplitl [HA]; · iexact HA
    rw [Finset.erase_insert hk]
    iintro ⟨HJ, HB⟩
    iapply (wp_runs c f J A B h Q l (List.nodup_cons.mp hl).2)
    isplitl [HJ]; · iexact HJ
    isplitl [HAs]; · iexact HAs
    iintro ⟨HJ, HBs⟩
    iapply Hk
    isplitl [HJ]; · iexact HJ
    isplitl [HB] <;> iassumption

/-- A loop over the chunks: if the step at `k` turns `A k` into `B k` while the state `J` loses `k`, the loop turns all
    `A` into all `B`. -/
theorem wp_each (c : Dev nD) (f : Fin 8 → P (F := F)) (J : Finset (Fin 8) → sProp 𝕄) (A B : Fin 8 → sProp 𝕄)
    (h : ∀ k S (Q : PUnit.{1} → sProp 𝕄), k ∈ S → iprop(J S ∗ A k ∗ ((J (S.erase k) ∗ B k) -∗ Q ⟨⟩)) ⊢ Run c (f k) Q) (Q : PUnit.{1} → sProp 𝕄) :
    iprop(J Finset.univ ∗ bigSep Finset.univ A ∗ ((J ∅ ∗ bigSep Finset.univ B) -∗ Q ⟨⟩)) ⊢ Run c (each f) Q := by
  have := wp_runs c f J A B h Q [0, 1, 2, 3, 4, 5, 6, 7] (by decide)
  rw [show ([0, 1, 2, 3, 4, 5, 6, 7] : List (Fin 8)).toFinset = Finset.univ by decide, ← each_eq] at this
  exact this

/-! ## The waits -/

/-- A wait for a chunk's transfer: the cell's payload `R`, and the cell's counter at zero for good. -/
theorem wp_arrive (c : Dev nD) (s : DmaSem sig) {k : Fin 8} (hk : chk s = k) {R : sProp 𝕄} (hR : pay m c (fam s) k = R) (S S' : Finset (Fin 8))
    (hS : S ≠ ∅ → lv (cell c (.dma s)) () < 2) (hS' : S' ≠ ∅ → lv (cell c (.dma s)) () < 3)
    {sp sp' : Space} {sh : Shape} {src : Memref sig .tc sp sh .f32} {dst : Memref sig .tc sp' sh .f32} {h1 : src.view.WordExact} {h2 : dst.view.WordExact}
    (hN : dst.view.dmaCredit = N k) {α : Type} {Q : α → sProp 𝕄} {k' : PUnit → Prog (TpuEff nD τ sig (Elt F) Λ₀ .tc) α} :
    iprop(Inv m K c S S' ∗ due c s k ∗ place c s)
      ⊢ iprop(((Inv m K c S S' ∗ zero c s ∗ R) -∗ Run c (k' ⟨⟩) Q) -∗ Run c (.op (.waitDma2 s src dst h1 h2) k') Q) := by
  subst hk; subst hR
  unfold Inv
  iintro ⟨⟨#HR, #HL, ⟨%W, HO⟩⟩, Hc, Ha⟩ Hk
  iapply (Rounds.wp_wait_rest_token 𝒱₀ ER (Rd m) (c : Thread nD τ) none (κ := K (c, .dma s))
      (wpE_waitDma2_eq 𝒱₀ (c : Thread nD τ) none Set.univ) (Set.mem_univ _) () (O := owedS c S S') (W := W) (R := 0) (m := 0) (T := ∅)
      (by rw [Nat.zero_add, expect_dma, hN])) $$ [Hc HO Ha]
  · isplitr; · iapply (inv_at m K c (.dma s)); iexact HR
    isplitl [Hc]; · rw [hN]; iexact Hc
    isplitl [HO]; · iexact HO
    isplitr; · iapply (mayWait c (.dma s) S S' hS hS'); iexact HL
    iexact Ha
  iintro ⟨HO, Ha, -, Hp⟩
  ihave Hp := (Entails.of_eq (rest_dma m c s)) $$ Hp
  imod (Rounds.cell_close ER (Rd m) (Set.mem_univ (K (c, .dma s))) (fun h => h) (R := 0 + 1) (duties_later m (cell c (.dma s)))) $$ [Ha] with Hz
  · isplitr; · iapply (inv_at m K c (.dma s)); iexact HR
    iexact Ha
  iapply Hk
  isplitl [HO]
  · isplitr; · iexact HR
    isplitr; · iexact HL
    iexists _; iexact HO
  isplitl [Hz] <;> iassumption

/-- Waits for what the device itself pays, at level 0. -/
theorem lv_low (c : Dev nD) (s : DmaSem sig) (h : fam s ≠ 2) (h' : fam s ≠ 4) : lv (cell c (.dma s)) () = 0 := by
  dsimp only [lv]; generalize fam s = j at *; revert j; decide

/-- The payloads, by the semaphore's name. -/
theorem pay_cp (c : Dev nD) (k : Fin 8) : pay m c (fam (cpS k)) k = iprop(xAt c k fullShare (own m c) ∗ aAt c k (inp m c)) := by rw [(cp_cls k).1]; rfl
theorem pay_zs (c : Dev nD) (k : Fin 8) : pay m c (fam (zsS k)) k = xAt c k fullShare.right (own m c) := by rw [(zs_cls k).1]; rfl
theorem pay_zr (c : Dev nD) (k : Fin 8) : pay m c (fam (zrS k)) k = sAt c k fullShare (own m (zp c)) := by rw [(zr_cls k).1]; rfl
theorem pay_xs (c : Dev nD) (k : Fin 8) : pay m c (fam (xsS k)) k = sAt c k fullShare.right (tot m c) := by rw [(xs_cls k).1]; rfl
theorem pay_xr (c : Dev nD) (k : Fin 8) : pay m c (fam (xrS k)) k = rAt c k fullShare (tot m (xn c)) := by rw [(xr_cls k).1]; rfl
theorem pay_wm (c : Dev nD) (k : Fin 8) : pay m c (fam (wmS k)) k = iprop(omAt c k (res m c) ∗ sAt c k fullShare.left (tot m c)) := by rw [(wm_cls k).1]; rfl
theorem pay_wo (c : Dev nD) (k : Fin 8) : pay m c (fam (woS k)) k = iprop(ooAt c k (res m c) ∗ rAt c k fullShare (tot m (xn c))) := by rw [(wo_cls k).1]; rfl

/-! ## The steps -/

section Steps
variable (c : Dev nD) (k : Fin 8) (S S' : Finset (Fin 8))

theorem fetch_spec (Q : PUnit.{1} → sProp 𝕄) :
    iprop(Inv m K c S S' ∗ (aAt c k (inp m c) ∗ (∃ f, xAt c k fullShare f) ∗ tok c (cpS k))
        ∗ ((Inv m K c S S' ∗ due c (cpS k) k) -∗ Q ⟨⟩))
      ⊢ Run c (fetch c k) Q := by
  unfold fetch copy Run
  simp only [Prog.lift]
  unfold Inv
  iintro ⟨⟨#HR, #HL, HO⟩, ⟨Ha, ⟨%f, Hx⟩, Ht⟩, Hk⟩
  have hw := sep_mono_left (Q := aAt c k (inp m c)) (Entails.of_eq (written (half xM k).view c fullShare f ((mine aM c k).view.read (Elt F) (inp m c)) (own m c) (own_rc m c k)))
  iapply (Rounds.wp_copy_pointsTo 𝒱₀ ER (Rd m) (c : Thread nD τ) none (κ := K (c, .dma (cpS k))) (r := 0) (d := false) (mem_dma m c _) () (N k) rfl
      (by rw [amount_dma, (cp_cls k).2])
      (by rw [payload_dma, (cp_cls k).1, (cp_cls k).2]; exact hw)) $$ [Ha Hx Ht]
  · isplitr; · iapply (inv_at m K c (.dma (cpS k))); iexact HR
    isplitl [Ha]; · iexact Ha
    isplitl [Hx]; · iexact Hx
    isplitl [Ht]; · iexact Ht
    iapply (reached_at m K c (.dma (cpS k))); iexact HR
  iintro Hc
  iapply (ret_spec c); iapply Hk
  isplitl [HO]
  · isplitr; · iexact HR
    isplitr; · iexact HL
    iexact HO
  iexact Hc

/-- A chunk goes to `zp c`: half its share and the arrival are paid for, the first arrival is no longer owed. -/
theorem send_z (n : Dev nD) (hn : n = zp c) (hk : k ∈ S) {hsc : (half sM k).view.ref.isScScratch = false}
    {hsrc : (half xM k).view.WordExact} {hdst : (half sM k).view.WordExact}
    {hsem : DmaTarget.Typed .vmem (.dma (zrS k)) (.remote (τ := τ) (p := .tc) (Dev.tc n) (half sM k) (.dma (zsS k)) hsc)}
    {α : Type} {Q : α → sProp 𝕄} {k' : PUnit → Prog (TpuEff nD τ sig (Elt F) Λ₀ .tc) α} :
    iprop(Inv m K c S S' ∗ xAt c k fullShare.right (own m c) ∗ (∃ f, sAt (zp c) k fullShare f) ∗ tok c (zsS k) ∗ tok (zp c) (zrS k))
      ⊢ iprop(((Inv m K c (S.erase k) S' ∗ due c (zsS k) k) -∗ Run c (k' ⟨⟩) Q)
          -∗ Run c (.op (.enqueueDma (half xM k) (.remote (Dev.tc n) (half sM k) (.dma (zsS k)) hsc) (.dma (zrS k)) hsrc hdst hsem) k') Q) := by
  subst hn
  unfold Inv
  iintro ⟨⟨#HR, #HL, ⟨%W, HO⟩⟩, Hx, ⟨%f, Hs⟩, Ht, Ht'⟩ Hk
  have hw := Entails.of_eq (written (half sM k).view (zp c) fullShare f ((half xM k).view.read (Elt F) (own m c)) (own m c) (fun x => rfl))
  iapply (Rounds.wp_send_pointsTo 𝒱₀ ER (Rd m) (c : Thread nD τ) none (κ₁ := K (c, .dma (zsS k))) (κ₂ := K (zp c, .dma (zrS k)))
    (r₁ := 0) (r₂ := 0) (d₁ := false) (d₂ := false) (fd := f) (mem_dma m c _) (mem_dma m (zp c) _) () () (N k) (N_s k)
    (by rw [amount_dma, (zs_cls k).2]) (by rw [amount_dma, (zr_cls k).2]) (owedS c (S.erase k) S') (owedS_z c S' hk) (W := W)
    (by rw [payload_dma, (zs_cls k).1, (zs_cls k).2]; exact Entails.refl _)
    (by rw [payload_dma, (zr_cls k).1, (zr_cls k).2]; unfold pay; rw [zp_zp]; exact hw)) $$ [HO Hx Hs Ht Ht']
  · isplitr; · iapply (inv_at m K c (.dma (zsS k))); iexact HR
    isplitr; · iapply (inv_at m K (zp c) (.dma (zrS k))); iexact HR
    isplitl [Hx]; · iexact Hx
    isplitl [Hs]; · iexact Hs
    isplitl [HO]; · iexact HO
    isplitl [Ht]; · iexact Ht
    isplitr; · iapply (reached_at m K c (.dma (zsS k))); iexact HR
    isplitl [Ht']; · iexact Ht'
    iapply (reached_at m K (zp c) (.dma (zrS k))); iexact HR
  iintro ⟨Hc, HO⟩
  iapply Hk
  isplitl [HO]
  · isplitr; · iexact HR
    isplitr; · iexact HL
    iexists _; iexact HO
  iexact Hc

/-- A chunk of the sum goes to `xn c`. -/
theorem send_x (n : Dev nD) (hn : n = xn c) (hk : k ∈ S') {hsc : (half rM k).view.ref.isScScratch = false}
    {hsrc : (half sM k).view.WordExact} {hdst : (half rM k).view.WordExact}
    {hsem : DmaTarget.Typed .vmem (.dma (xrS k)) (.remote (τ := τ) (p := .tc) (Dev.tc n) (half rM k) (.dma (xsS k)) hsc)}
    {α : Type} {Q : α → sProp 𝕄} {k' : PUnit → Prog (TpuEff nD τ sig (Elt F) Λ₀ .tc) α} :
    iprop(Inv m K c S S' ∗ sAt c k fullShare.right (tot m c) ∗ (∃ f, rAt (xn c) k fullShare f) ∗ tok c (xsS k) ∗ tok (xn c) (xrS k))
      ⊢ iprop(((Inv m K c S (S'.erase k) ∗ due c (xsS k) k) -∗ Run c (k' ⟨⟩) Q)
          -∗ Run c (.op (.enqueueDma (half sM k) (.remote (Dev.tc n) (half rM k) (.dma (xsS k)) hsc) (.dma (xrS k)) hsrc hdst hsem) k') Q) := by
  subst hn
  unfold Inv
  iintro ⟨⟨#HR, #HL, ⟨%W, HO⟩⟩, Hx, ⟨%f, Hs⟩, Ht, Ht'⟩ Hk
  have hw := Entails.of_eq (written (half rM k).view (xn c) fullShare f ((half sM k).view.read (Elt F) (tot m c)) (tot m c) (fun x => rfl))
  iapply (Rounds.wp_send_pointsTo 𝒱₀ ER (Rd m) (c : Thread nD τ) none (κ₁ := K (c, .dma (xsS k))) (κ₂ := K (xn c, .dma (xrS k)))
    (r₁ := 0) (r₂ := 0) (d₁ := false) (d₂ := false) (fd := f) (mem_dma m c _) (mem_dma m (xn c) _) () () (N k) (N_r k)
    (by rw [amount_dma, (xs_cls k).2]) (by rw [amount_dma, (xr_cls k).2]) (owedS c S (S'.erase k)) (owedS_x c S hk) (W := W)
    (by rw [payload_dma, (xs_cls k).1, (xs_cls k).2]; exact Entails.refl _)
    (by rw [payload_dma, (xr_cls k).1, (xr_cls k).2]; unfold pay; rw [xn_xn]; exact hw)) $$ [HO Hx Hs Ht Ht']
  · isplitr; · iapply (inv_at m K c (.dma (xsS k))); iexact HR
    isplitr; · iapply (inv_at m K (xn c) (.dma (xrS k))); iexact HR
    isplitl [Hx]; · iexact Hx
    isplitl [Hs]; · iexact Hs
    isplitl [HO]; · iexact HO
    isplitl [Ht]; · iexact Ht
    isplitr; · iapply (reached_at m K c (.dma (xsS k))); iexact HR
    isplitl [Ht']; · iexact Ht'
    iapply (reached_at m K (xn c) (.dma (xrS k))); iexact HR
  iintro ⟨Hc, HO⟩
  iapply Hk
  isplitl [HO]
  · isplitr; · iexact HR
    isplitr; · iexact HL
    iexists _; iexact HO
  iexact Hc

/-- The own rows arrived and go to `zp c`; half their share stays. -/
theorem forward_spec (hk : k ∈ S) (Q : PUnit.{1} → sProp 𝕄) :
    iprop(Inv m K c S S'
        ∗ (due c (cpS k) k ∗ place c (cpS k) ∗ (∃ f, sAt (zp c) k fullShare f) ∗ tok c (zsS k) ∗ tok (zp c) (zrS k))
        ∗ ((Inv m K c (S.erase k) S' ∗ (aAt c k (inp m c) ∗ xAt c k fullShare.left (own m c) ∗ due c (zsS k) k ∗ zero c (cpS k))) -∗ Q ⟨⟩))
      ⊢ Run c (forward c k) Q := by
  unfold forward send wait Run
  simp only [Prog.lift, Prog.bind_op, Prog.bind_ret]
  iintro ⟨HI, ⟨Hc, Ha, Hs, Ht, Ht'⟩, Hk⟩
  have hl := lv_low c (cpS k) (by rw [(cp_cls k).1]; decide) (by rw [(cp_cls k).1]; decide)
  iapply (wp_arrive m K c (cpS k) (cp_cls k).2 (pay_cp m c k) S S'
    (fun _ => by omega) (fun _ => by omega) rfl) $$ [HI Hc Ha]
  · isplitl [HI]; · iexact HI
    isplitl [Hc] <;> iassumption
  iintro ⟨HI, Hz, Hx, Hin⟩
  ihave Hx := (pointsTo_share (PosShare.mem_left_op_right fullShare)).1 $$ Hx
  icases Hx with ⟨Hxl, Hxr⟩
  iapply (send_z m K c k S S' _ (zDev_eq c k) hk) $$ [HI Hxr Hs Ht Ht']
  · isplitl [HI]; · iexact HI
    isplitl [Hxr]; · iexact Hxr
    isplitl [Hs]; · iexact Hs
    isplitl [Ht] <;> iassumption
  iintro ⟨HI, Hc⟩
  iapply (ret_spec c); iapply Hk
  isplitl [HI]; · iexact HI
  isplitl [Hin]; · iexact Hin
  isplitl [Hxl]; · iexact Hxl
  isplitl [Hc] <;> iassumption

/-- The received rows replaced by their sum with the own rows. -/
theorem accum_spec (Q : PUnit.{1} → sProp 𝕄) :
    iprop((sAt c k fullShare (own m (zp c)) ∗ xAt c k fullShare.left (own m c))
        ∗ ((sAt c k fullShare (tot m c) ∗ xAt c k fullShare.left (own m c)) -∗ Q ⟨⟩))
      ⊢ Run c (accum k) Q := by
  unfold accum Run
  simp only [Prog.lift, Prog.bind_op, Prog.bind_ret]
  iintro ⟨⟨Hs, Hx⟩, Hk⟩
  iapply (wp_load_rect 𝒱₀ (c : Thread nD τ) none Set.univ (m := sM) (r := rc k) (Finset.Subset.refl _)) $$ Hs; iintro Hs
  iapply (wp_load_rect 𝒱₀ (c : Thread nD τ) none Set.univ (m := xM) (r := rc k) (Finset.Subset.refl _)) $$ Hx; iintro Hx
  iapply (wp_load_rect 𝒱₀ (c : Thread nD τ) none Set.univ (m := sM) (r := rc k) (Finset.Subset.refl _)) $$ Hs; iintro Hs
  iapply (wp_store 𝒱₀ (c : Thread nD τ) none Set.univ (m := sM) (r := rc k) (Mk := Finset.univ) (S := (half sM k).view.set) (Finset.Subset.refl _)) $$ Hs; iintro Hs
  have hw := Entails.of_eq (written (half sM k).view c fullShare (own m (zp c))
    (addC k ((half sM k).view.read (Elt F) (own m (zp c))) ((half xM k).view.read (Elt F) (own m c))) (tot m c) (tot_rc m c k))
  ihave Hs := hw $$ Hs
  iapply (ret_spec c); iapply Hk
  isplitl [Hs] <;> iassumption

/-- The partner's rows arrived and are summed; the sum goes to `xn c` and to the result. -/
theorem reduce_spec (hk : k ∈ S') (Q : PUnit.{1} → sProp 𝕄) :
    iprop(Inv m K c ∅ S'
        ∗ (due c (zrS k) k ∗ place c (zrS k) ∗ xAt c k fullShare.left (own m c) ∗ (∃ f, rAt (xn c) k fullShare f) ∗ tok c (xsS k)
            ∗ tok (xn c) (xrS k) ∗ (∃ f, omAt c k f) ∗ tok c (wmS k))
        ∗ ((Inv m K c ∅ (S'.erase k) ∗ (xAt c k fullShare.left (own m c) ∗ due c (xsS k) k ∗ due c (wmS k) k ∗ zero c (zrS k))) -∗ Q ⟨⟩))
      ⊢ Run c (reduce c k) Q := by
  unfold reduce send copy wait Run
  simp only [Prog.lift, Prog.bind_op, Prog.bind_ret]
  iintro ⟨HI, ⟨Hc, Ha, Hx, Hr, Ht, Ht', ⟨%f, Ho⟩, Htm⟩, Hk⟩
  iapply (wp_arrive m K c (zrS k) (zr_cls k).2 (pay_zr m c k) ∅ S'
    (fun h => absurd rfl h) (fun _ => by rw [lv_zr]; decide) (N_s k)) $$ [HI Hc Ha]
  · isplitl [HI]; · iexact HI
    isplitl [Hc] <;> iassumption
  iintro ⟨HI, Hz, Hs⟩
  iapply (bind_spec c)
  iapply (accum_spec m c k)
  isplitl [Hs Hx]
  · isplitl [Hs] <;> iassumption
  iintro ⟨Hs, Hx⟩
  ihave Hs := (pointsTo_share (PosShare.mem_left_op_right fullShare)).1 $$ Hs
  icases Hs with ⟨Hsl, Hsr⟩
  iapply (send_x m K c k ∅ S' _ (xDev_eq c k) hk) $$ [HI Hsr Hr Ht Ht']
  · isplitl [HI]; · iexact HI
    isplitl [Hsr]; · iexact Hsr
    isplitl [Hr]; · iexact Hr
    isplitl [Ht] <;> iassumption
  iintro ⟨HI, Hc⟩
  unfold Inv
  icases HI with ⟨#HR, #HL, HO⟩
  have hw := sep_mono_left (Q := sAt c k fullShare.left (tot m c)) (Entails.of_eq (written (mine oM c k).view c fullShare f
    ((half sM k).view.read (Elt F) (tot m c)) (res m c) (res_mine m c k)))
  iapply (Rounds.wp_copy_pointsTo 𝒱₀ ER (Rd m) (c : Thread nD τ) none (κ := K (c, .dma (wmS k))) (r := 0) (d := false) (mem_dma m c _) () (N k) (N_m c k)
      (by rw [amount_dma, (wm_cls k).2])
      (by rw [payload_dma, (wm_cls k).1, (wm_cls k).2]; exact hw)) $$ [Hsl Ho Htm]
  · isplitr; · iapply (inv_at m K c (.dma (wmS k))); iexact HR
    isplitl [Hsl]; · iexact Hsl
    isplitl [Ho]; · iexact Ho
    isplitl [Htm]; · iexact Htm
    iapply (reached_at m K c (.dma (wmS k))); iexact HR
  iintro Hcm
  iapply (ret_spec c); iapply Hk
  isplitl [HO]
  · isplitr; · iexact HR
    isplitr; · iexact HL
    iexact HO
  isplitl [Hx]; · iexact Hx
  isplitl [Hc]; · iexact Hc
  isplitl [Hcm] <;> iassumption

/-- The other half's sum arrived and goes to the result. -/
theorem collect_spec (Q : PUnit.{1} → sProp 𝕄) :
    iprop(Inv m K c ∅ ∅
        ∗ (due c (xrS k) k ∗ place c (xrS k) ∗ (∃ f, ooAt c k f) ∗ tok c (woS k))
        ∗ ((Inv m K c ∅ ∅ ∗ (due c (woS k) k ∗ zero c (xrS k))) -∗ Q ⟨⟩))
      ⊢ Run c (collect c k) Q := by
  unfold collect copy wait Run
  simp only [Prog.lift, Prog.bind_op, Prog.bind_ret]
  iintro ⟨HI, ⟨Hc, Ha, ⟨%f, Ho⟩, Htm⟩, Hk⟩
  iapply (wp_arrive m K c (xrS k) (xr_cls k).2 (pay_xr m c k) ∅ ∅
    (fun h => absurd rfl h) (fun h => absurd rfl h) (N_r k)) $$ [HI Hc Ha]
  · isplitl [HI]; · iexact HI
    isplitl [Hc] <;> iassumption
  iintro ⟨HI, Hz, Hr⟩
  unfold Inv
  icases HI with ⟨#HR, #HL, HO⟩
  have hw := sep_mono_left (Q := rAt c k fullShare (tot m (xn c))) (Entails.of_eq (written (other oM c k).view c fullShare f
    ((half rM k).view.read (Elt F) (tot m (xn c))) (res m c) (res_other m c k)))
  iapply (Rounds.wp_copy_pointsTo 𝒱₀ ER (Rd m) (c : Thread nD τ) none (κ := K (c, .dma (woS k))) (r := 0) (d := false) (mem_dma m c _) () (N k) (N_o c k)
      (by rw [amount_dma, (wo_cls k).2])
      (by rw [payload_dma, (wo_cls k).1, (wo_cls k).2]; exact hw)) $$ [Hr Ho Htm]
  · isplitr; · iapply (inv_at m K c (.dma (woS k))); iexact HR
    isplitl [Hr]; · iexact Hr
    isplitl [Ho]; · iexact Ho
    isplitl [Htm]; · iexact Htm
    iapply (reached_at m K c (.dma (woS k))); iexact HR
  iintro Hcm
  iapply (ret_spec c); iapply Hk
  isplitl [HO]
  · isplitr; · iexact HR
    isplitr; · iexact HL
    iexact HO
  isplitl [Hcm] <;> iassumption

/-- One wait, owing nothing, as a whole program. -/
theorem wait_spec {s : DmaSem sig} (hk : chk s = k) {R : sProp 𝕄} (hR : pay m c (fam s) k = R)
    {sp sp' : Space} {sh : Shape} {src : Memref sig .tc sp sh .f32} {dst : Memref sig .tc sp' sh .f32} (hN : dst.view.dmaCredit = N k) (Q : PUnit.{1} → sProp 𝕄) :
    iprop(Inv m K c ∅ ∅ ∗ (due c s k ∗ place c s) ∗ ((Inv m K c ∅ ∅ ∗ (R ∗ zero c s)) -∗ Q ⟨⟩))
      ⊢ Run c (wait s src dst) Q := by
  unfold wait Run
  simp only [Prog.lift]
  iintro ⟨HI, ⟨Hc, Ha⟩, Hk⟩
  iapply (wp_arrive m K c s hk hR ∅ ∅ (fun h => absurd rfl h) (fun h => absurd rfl h) hN) $$ [HI Hc Ha]
  · isplitl [HI]; · iexact HI
    isplitl [Hc] <;> iassumption
  iintro ⟨HI, Hz, Hr⟩
  iapply (ret_spec c); iapply Hk
  isplitl [HI]; · iexact HI
  isplitl [Hr] <;> iassumption

/-- The result's copy of a chunk of the own half finished. -/
theorem drainMine_spec (Q : PUnit.{1} → sProp 𝕄) :
    iprop(Inv m K c ∅ ∅ ∗ (due c (wmS k) k ∗ place c (wmS k))
        ∗ ((Inv m K c ∅ ∅ ∗ ((omAt c k (res m c) ∗ sAt c k fullShare.left (tot m c)) ∗ zero c (wmS k))) -∗ Q ⟨⟩))
      ⊢ Run c (drainMine c k) Q :=
  wait_spec m K c k (s := wmS k) (wm_cls k).2 (pay_wm m c k) (src := half sM k) (dst := mine oM c k) (N_m c k) Q

/-- The result's copy of a chunk of the other half finished. -/
theorem drainOther_spec (Q : PUnit.{1} → sProp 𝕄) :
    iprop(Inv m K c ∅ ∅ ∗ (due c (woS k) k ∗ place c (woS k))
        ∗ ((Inv m K c ∅ ∅ ∗ ((ooAt c k (res m c) ∗ rAt c k fullShare (tot m (xn c))) ∗ zero c (woS k))) -∗ Q ⟨⟩))
      ⊢ Run c (drainOther c k) Q :=
  wait_spec m K c k (s := woS k) (wo_cls k).2 (pay_wo m c k) (src := half rM k) (dst := other oM c k) (N_o c k) Q

/-- Both sends of a chunk finished: the shares lent to them are back. -/
theorem drainSends_spec (Q : PUnit.{1} → sProp 𝕄) :
    iprop(Inv m K c ∅ ∅ ∗ (due c (zsS k) k ∗ place c (zsS k) ∗ due c (xsS k) k ∗ place c (xsS k))
        ∗ ((Inv m K c ∅ ∅ ∗ (xAt c k fullShare.right (own m c) ∗ sAt c k fullShare.right (tot m c) ∗ zero c (zsS k) ∗ zero c (xsS k))) -∗ Q ⟨⟩))
      ⊢ Run c (drainSends k) Q := by
  unfold drainSends
  iintro ⟨HI, ⟨Hc, Ha, Hc', Ha'⟩, Hk⟩
  iapply (bind_spec c)
  iapply (wait_spec m K c k (s := zsS k) (zs_cls k).2 (pay_zs m c k) (src := half sM k) (dst := half xM k) rfl)
  isplitl [HI]; · iexact HI
  isplitl [Hc Ha]
  · isplitl [Hc] <;> iassumption
  iintro ⟨HI, Hx, Hz⟩
  iapply (wait_spec m K c k (s := xsS k) (xs_cls k).2 (pay_xs m c k) (src := half rM k) (dst := half sM k) (N_s k))
  isplitl [HI]; · iexact HI
  isplitl [Hc' Ha']
  · isplitl [Hc'] <;> iassumption
  iintro ⟨HI, Hs, Hz'⟩
  iapply Hk
  isplitl [HI]; · iexact HI
  isplitl [Hx]; · iexact Hx
  isplitl [Hs]; · iexact Hs
  isplitl [Hz] <;> iassumption

/-- The handshake: each partner gets its unit and with it the buffer it may write, and both units are awaited; the two
    partners' buffers come with them. -/
theorem handshake_spec (Q : PUnit.{1} → sProp 𝕄) :
    iprop((records m K ∗ levAts L lv ∗ ∃ W, owes (c : Thread nD τ) (O₀ c) W)
        ∗ (dutyTok ER (barCell (zp c)) 0 false ∗ dutyTok ER (barCell (xn c)) 0 true ∗ cred (tallyAt (barCell c) () 2) ∗ atPos ER (barCell c) 0 ∅ 0)
        ∗ sAny c ∗ rAny c
        ∗ ((Inv m K c Finset.univ Finset.univ ∗ semVal (barCell c) 0 ∗ sAny (zp c) ∗ rAny (xn c)) -∗ Q ⟨⟩))
      ⊢ Run c (handshake c) Q := by
  unfold handshake Run
  simp only [semSignalWord, semWaitWord, Prog.lift, Prog.bind_op, Prog.bind_ret, Prog.pure_eq_ret]
  simp only [dev1_eq c, dev2_eq c]
  iintro ⟨⟨#HR, #HL, ⟨%W, HO⟩⟩, ⟨Htz, Htx, Hc, Ha⟩, Hs, Hr, Hk⟩
  iapply (Rounds.wp_signal 𝒱₀ ER (Rd m) (c : Thread nD τ) none (dst := (zp c : Thread nD τ)) (κ := K (zp c, .reg barS))
      (d := false) (by rw [duties_bar]; exact Finset.mem_univ _) ((amount_bar m (zp c) false).trans (by decide)) () (O₁ c) rfl)
    $$ [HO Htz Hs]
  · isplitr; · iapply (inv_at m K (zp c) (.reg barS)); iexact HR
    isplitl [HO]; · iexact HO
    isplitl [Htz]; · iexact Htz
    isplitl [Hs]; · rw [payload_bar_false, zp_zp]; iexact Hs
    iapply (reached_at m K (zp c) (.reg barS)); iexact HR
  iintro HO
  iapply (Rounds.wp_signal 𝒱₀ ER (Rd m) (c : Thread nD τ) none (dst := (xn c : Thread nD τ)) (κ := K (xn c, .reg barS))
      (d := true) (by rw [duties_bar]; exact Finset.mem_univ _) ((amount_bar m (xn c) true).trans (by decide)) () (owedS c Finset.univ Finset.univ) rfl)
    $$ [HO Htx Hr]
  · isplitr; · iapply (inv_at m K (xn c) (.reg barS)); iexact HR
    isplitl [HO]; · iexact HO
    isplitl [Htx]; · iexact Htx
    isplitl [Hr]; · rw [payload_bar_true, xn_xn]; iexact Hr
    iapply (reached_at m K (xn c) (.reg barS)); iexact HR
  iintro HO
  iapply (Rounds.wp_wait_rest_token 𝒱₀ ER (Rd m) (c : Thread nD τ) none (κ := K (c, .reg barS))
      (wpE_semWait_eq 𝒱₀ (c : Thread nD τ) none Set.univ) (Set.mem_univ _) () (O := owedS c Finset.univ Finset.univ) (W := W) (R := 0) (m := 0) (T := ∅)
      (by rw [expect_bar]; decide)) $$ [Hc HO Ha]
  · isplitr; · iapply (inv_at m K c (.reg barS)); iexact HR
    isplitl [Hc]; · iexact Hc
    isplitl [HO]; · iexact HO
    isplitr; · iapply (mayWait c (.reg barS) Finset.univ Finset.univ (fun _ => (by decide : 1 < 2)) (fun _ => (by decide : 1 < 3))); iexact HL
    iexact Ha
  iintro ⟨HO, Ha, -, Hp⟩
  ihave Hp := (Entails.of_eq (rest_bar m c)) $$ Hp
  icases Hp with ⟨Hs, Hr⟩
  imod (Rounds.cell_close ER (Rd m) (Set.mem_univ (K (c, .reg barS))) (fun h => h) (R := 0 + 1) (duties_later m (barCell c))) $$ [Ha] with Hz
  · isplitr; · iapply (inv_at m K c (.reg barS)); iexact HR
    iexact Ha
  iapply (ret_spec c); iapply Hk
  unfold Inv
  isplitl [HO]
  · isplitr; · iexact HR
    isplitr; · iexact HL
    iexists _; iexact HO
  isplitl [Hz]; · iexact Hz
  isplitl [Hs] <;> iassumption

end Steps

/-! ## The whole kernel -/

/-- Something at every chunk. -/
abbrev all (Φ : Fin 8 → sProp 𝕄) : sProp 𝕄 := bigSep Finset.univ Φ

/-- The duties device `c` pays with its copies and sends, one chunk's. -/
def toks (c : Dev nD) : sProp 𝕄 :=
  iprop(all (fun k => tok (F := F) c (cpS k)) ∗ all (fun k => tok (F := F) c (zsS k)) ∗ all (fun k => tok (F := F) (zp c) (zrS k)) ∗ all (fun k => tok (F := F) c (xsS k))
    ∗ all (fun k => tok (F := F) (xn c) (xrS k)) ∗ all (fun k => tok (F := F) c (wmS k)) ∗ all (fun k => tok (F := F) c (woS k)))
/-- Device `c`'s places before the rounds of its transfers' cells. -/
def places (c : Dev nD) : sProp 𝕄 :=
  iprop(all (fun k => place (F := F) c (cpS k)) ∗ all (fun k => place (F := F) c (zsS k)) ∗ all (fun k => place (F := F) c (zrS k)) ∗ all (fun k => place (F := F) c (xsS k))
    ∗ all (fun k => place (F := F) c (xrS k)) ∗ all (fun k => place (F := F) c (wmS k)) ∗ all (fun k => place (F := F) c (woS k)))
/-- Those cells' counters at zero. -/
def zeros (c : Dev nD) : sProp 𝕄 :=
  iprop(all (fun k => zero (F := F) c (cpS k)) ∗ all (fun k => zero (F := F) c (zsS k)) ∗ all (fun k => zero (F := F) c (zrS k)) ∗ all (fun k => zero (F := F) c (xsS k))
    ∗ all (fun k => zero (F := F) c (xrS k)) ∗ all (fun k => zero (F := F) c (wmS k)) ∗ all (fun k => zero (F := F) c (woS k)))

/-- What the kernel on device `c` starts from, apart from what it owes. -/
def pre (c : Dev nD) : sProp 𝕄 :=
  iprop((dutyTok ER (barCell (zp c)) 0 false ∗ dutyTok ER (barCell (xn c)) 0 true ∗ cred (tallyAt (barCell c) () 2) ∗ atPos ER (barCell c) 0 ∅ 0)
    ∗ toks (F := F) c ∗ places (F := F) c ∗ all (fun k => due (F := F) c (zrS k) k) ∗ all (fun k => due (F := F) c (xrS k) k)
    ∗ all (fun k => aAt c k (inp m c)) ∗ all (fun k => iprop(∃ f, xAt (F := F) c k fullShare f)) ∗ sAny (F := F) c ∗ rAny (F := F) c
    ∗ all (fun k => iprop(∃ f, omAt (F := F) c k f)) ∗ all (fun k => iprop(∃ f, ooAt (F := F) c k f)))

/-- What it ends with: its block as it was, the result, and every counter at zero. -/
def post (c : Dev nD) : sProp 𝕄 :=
  iprop(semVal (barCell c) 0 ∗ zeros (F := F) c ∗ all (fun k => aAt c k (inp m c))
    ∗ all (fun k => xAt c k fullShare.left (own m c)) ∗ all (fun k => xAt c k fullShare.right (own m c))
    ∗ all (fun k => sAt c k fullShare.left (tot m c)) ∗ all (fun k => sAt c k fullShare.right (tot m c)) ∗ all (fun k => rAt c k fullShare (tot m (xn c)))
    ∗ all (fun k => omAt c k (res m c)) ∗ all (fun k => ooAt c k (res m c)))

set_option maxHeartbeats 1000000 in
/-- The kernel on device `c`, from `pre` to `post`, owing nothing at the end. -/
theorem work_spec (c : Dev nD) (Q : PUnit.{1} → sProp 𝕄) :
    iprop((records m K ∗ levAts L lv ∗ ∃ W, owes (c : Thread nD τ) (O₀ c) W) ∗ pre m c
        ∗ ((post m c ∗ ∃ W, owes (c : Thread nD τ) 0 W) -∗ Q ⟨⟩))
      ⊢ Run c (work c) Q := by
  have e1 := fun Q => wp_each c (fetch c) (fun _ => Inv m K c Finset.univ Finset.univ) _ _ (fun k S Q _ => fetch_spec m K c k Finset.univ Finset.univ Q) Q
  have e2 := fun Q => wp_each c (forward c) (fun S => Inv m K c S Finset.univ) _ _ (fun k S Q h => forward_spec m K c k S Finset.univ h Q) Q
  have e3 := fun Q => wp_each c (reduce c) (fun S => Inv m K c ∅ S) _ _ (fun k S Q h => reduce_spec m K c k S h Q) Q
  have e4 := fun Q => wp_each c (collect c) (fun _ => Inv m K c ∅ ∅) _ _ (fun k S Q _ => collect_spec m K c k Q) Q
  have e5 := fun Q => wp_each c (drainMine c) (fun _ => Inv m K c ∅ ∅) _ _ (fun k S Q _ => drainMine_spec m K c k Q) Q
  have e6 := fun Q => wp_each c (drainOther c) (fun _ => Inv m K c ∅ ∅) _ _ (fun k S Q _ => drainOther_spec m K c k Q) Q
  have e7 := fun Q => wp_each c drainSends (fun _ => Inv m K c ∅ ∅) _ _ (fun k S Q _ => drainSends_spec m K c k Q) Q
  simp only [bigSep_sep'] at e1 e2 e3 e4 e5 e6 e7
  unfold work pre post toks places zeros sAny rAny
  iintro ⟨HI, ⟨Hbar, ⟨Tcp, Tzs, Tzr, Txs, Txr, Twm, Two⟩, ⟨Pcp, Pzs, Pzr, Pxs, Pxr, Pwm, Pwo⟩, Dzr, Dxr, Ha, Hx, Hs, Hr, Hom, Hoo⟩, Hk⟩
  iapply (bind_spec c); iapply (handshake_spec m K c)
  isplitl [HI]; · iexact HI
  isplitl [Hbar]; · iexact Hbar
  unfold sAny rAny
  isplitl [Hs]; · iexact Hs
  isplitl [Hr]; · iexact Hr
  iintro ⟨HI, Zbar, Hs, Hr⟩
  iapply (bind_spec c); iapply (e1 _)
  isplitl [HI]; · iexact HI
  isplitl [Ha Hx Tcp]
  · isplitl [Ha]; · iexact Ha
    isplitl [Hx] <;> iassumption
  iintro ⟨HI, Dcp⟩
  iapply (bind_spec c); iapply (e2 _)
  isplitl [HI]; · iexact HI
  isplitl [Dcp Pcp Hs Tzs Tzr]
  · isplitl [Dcp]; · iexact Dcp
    isplitl [Pcp]; · iexact Pcp
    isplitl [Hs]; · iexact Hs
    isplitl [Tzs] <;> iassumption
  iintro ⟨HI, Ha, Hxl, Dzs, Zcp⟩
  iapply (bind_spec c); iapply (e3 _)
  isplitl [HI]; · iexact HI
  isplitl [Dzr Pzr Hxl Hr Txs Txr Hom Twm]
  · isplitl [Dzr]; · iexact Dzr
    isplitl [Pzr]; · iexact Pzr
    isplitl [Hxl]; · iexact Hxl
    isplitl [Hr]; · iexact Hr
    isplitl [Txs]; · iexact Txs
    isplitl [Txr]; · iexact Txr
    isplitl [Hom] <;> iassumption
  iintro ⟨HI, Hxl, Dxs, Dwm, Zzr⟩
  iapply (bind_spec c); iapply (e4 _)
  isplitl [HI]; · iexact HI
  isplitl [Dxr Pxr Hoo Two]
  · isplitl [Dxr]; · iexact Dxr
    isplitl [Pxr]; · iexact Pxr
    isplitl [Hoo] <;> iassumption
  iintro ⟨HI, Dwo, Zxr⟩
  iapply (bind_spec c); iapply (e5 _)
  isplitl [HI]; · iexact HI
  isplitl [Dwm Pwm]
  · isplitl [Dwm] <;> iassumption
  iintro ⟨HI, ⟨Hom, Hsl⟩, Zwm⟩
  iapply (bind_spec c); iapply (e6 _)
  isplitl [HI]; · iexact HI
  isplitl [Dwo Pwo]
  · isplitl [Dwo] <;> iassumption
  iintro ⟨HI, ⟨Hoo, Hr⟩, Zwo⟩
  iapply (e7 _)
  isplitl [HI]; · iexact HI
  isplitl [Dzs Pzs Dxs Pxs]
  · isplitl [Dzs]; · iexact Dzs
    isplitl [Pzs]; · iexact Pzs
    isplitl [Dxs] <;> iassumption
  iintro ⟨HI, Hxr, Hsr, Zzs, Zxs⟩
  iapply Hk
  unfold Inv
  icases HI with ⟨-, -, HO⟩
  rw [owedS_empty]
  isplitr [HO]
  · isplitl [Zbar]; · iexact Zbar
    isplitl [Zcp Zzs Zzr Zxs Zxr Zwm Zwo]
    · isplitl [Zcp]; · iexact Zcp
      isplitl [Zzs]; · iexact Zzs
      isplitl [Zzr]; · iexact Zzr
      isplitl [Zxs]; · iexact Zxs
      isplitl [Zxr]; · iexact Zxr
      isplitl [Zwm] <;> iassumption
    isplitl [Ha]; · iexact Ha
    isplitl [Hxl]; · iexact Hxl
    isplitl [Hxr]; · iexact Hxr
    isplitl [Hsl]; · iexact Hsl
    isplitl [Hsr]; · iexact Hsr
    isplitl [Hr]; · iexact Hr
    isplitl [Hom] <;> iassumption
  iexact HO

end Cert.AllReduce

end
-- ==== Proof.Deal.lean ====
/-
# 01_k — the ghost state dealt to the devices

At launch every semaphore of every device becomes a cell, its invariant known to all; the duties are dealt to the
devices that pay them, and the credits to the devices that wait.
-/
module

public import proofs.«01_k».proof.Proof.Body

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The semaphores, array by array -/

/-- The semaphore of an array and a chunk. -/
def semOf (x : Fin 7 × Fin 8) : DmaSem sig :=
  (match x.1 with | 0 => cpS | 1 => zsS | 2 => zrS | 3 => xsS | 4 => xrS | 5 => wmS | 6 => woS : Fin 8 → DmaSem sig) x.2

theorem semOf_cls (j : Fin 7) (k : Fin 8) : fam (semOf (j, k)) = j ∧ chk (semOf (j, k)) = k := by
  match j with
  | 0 => exact cp_cls k
  | 1 => exact zs_cls k
  | 2 => exact zr_cls k
  | 3 => exact xs_cls k
  | 4 => exact xr_cls k
  | 5 => exact wm_cls k
  | 6 => exact wo_cls k

/-- The transfers' semaphores are seven arrays of eight. -/
def semE : Fin 7 × Fin 8 ≃ DmaSem sig where
  toFun := semOf
  invFun s := (fam s, chk s)
  left_inv x := Prod.ext (semOf_cls x.1 x.2).1 (semOf_cls x.1 x.2).2
  right_inv s := cls_inj (semOf_cls _ _).1 (semOf_cls _ _).2

omit [FloatOps F] in
/-- What is held of every transfer's semaphore, array by array. -/
theorem dma_all (Φ : DmaSem sig → sProp 𝕄) :
    bigSep Finset.univ Φ = iprop(all (fun k => Φ (cpS k)) ∗ all (fun k => Φ (zsS k)) ∗ all (fun k => Φ (zrS k)) ∗ all (fun k => Φ (xsS k))
      ∗ all (fun k => Φ (xrS k)) ∗ all (fun k => Φ (wmS k)) ∗ all (fun k => Φ (woS k))) := by
  rw [bigSep_univ_equiv semE, bigSep_univ_prod, bigSep_univ_eq_bigSepL [0, 1, 2, 3, 4, 5, 6] (by decide) (by decide)]
  rfl

omit [FloatOps F] in
/-- What is held of every semaphore: the barrier's, and the transfers'. -/
theorem loc_all (Φ : SemLoc sig → sProp 𝕄) :
    bigSep Finset.univ Φ = iprop(Φ (.reg barS) ∗ bigSep Finset.univ fun s : DmaSem sig => Φ (.dma s)) := by
  have h1 : (bigSep Finset.univ fun s : Sem sig => Φ (.reg s)) = Φ (.reg barS) := by
    rw [bigSep_univ_eq_bigSepL [(barS : Sem sig)] (by decide) (by decide)]; rfl
  rw [← h1, bigSep_univ_equiv (SemLoc.equivSum sig).symm, bigSep_univ_sum]
  rfl

/-! ## What the launch element is -/

/-- A device's duties: its barrier's two, and one of each transfer's semaphore. -/
abbrev dutyOf (x : Dev nD × (Bool ⊕ DmaSem sig)) : GSem nD τ sig × ℕ × Bool := match x.2 with
  | .inl b => (barCell x.1, 0, b)
  | .inr s => (cell x.1 (.dma s), 0, false)

theorem cell_inj : Function.Injective fun g : Dev nD × SemLoc sig => cell g.1 g.2 := by
  rintro ⟨c, s⟩ ⟨c', s'⟩ h
  have h1 : c = c' := congrArg (fun g : GSem nD τ sig => g.1.1) h
  have h2 : s = s' := congrArg Prod.snd h
  rw [h1, h2]

theorem dutyOf_inj : Function.Injective dutyOf := by
  rintro ⟨c, x⟩ ⟨c', x'⟩ h
  have h1 : c = c' := by
    have := congrArg (fun x : GSem nD τ sig × ℕ × Bool => x.1.1.1) h
    rcases x with b | s <;> rcases x' with b' | s' <;> exact this
  subst h1
  have hs := congrArg (fun x : GSem nD τ sig × ℕ × Bool => x.1.2) h
  have hb := congrArg (fun x : GSem nD τ sig × ℕ × Bool => x.2.2) h
  rcases x with b | s <;> rcases x' with b' | s'
  · have hb : b = b' := hb
    rw [hb]
  · exact absurd hs (fun h => by cases h)
  · exact absurd hs (fun h => by cases h)
  · have hs : SemLoc.dma s = SemLoc.dma s' := hs
    rw [SemLoc.dma.inj hs]

def kCells : Finset (GSem nD τ sig) := Finset.univ.map ⟨_, cell_inj⟩
def kDuties : Finset (GSem nD τ sig × ℕ × Bool) := Finset.univ.map ⟨dutyOf, dutyOf_inj⟩

/-- The launch element: the launch's own rounds, and every cell of this kernel at its round. -/
def u₀ : UU :=
  (initOf (Pipeline.cells cfgs cellOf_inj) (Pipeline.launchToks cfgs cellOf_inj), initOf kCells kDuties)

/-- The duties of device `c`'s own cells. -/
def minted (c : Dev nD) : sProp 𝕄 :=
  iprop(dutyTok ER (barCell c) 0 false ∗ dutyTok ER (barCell c) 0 true ∗ bigSep Finset.univ fun s : DmaSem sig => tok (F := F) c s)

/-- What the element gives for device `c`: its cells' states, places and marks, and their duties. -/
def G (c : Dev nD) : sProp 𝕄 :=
  iprop((bigSep Finset.univ fun s : SemLoc sig => roundState ER (Rd m) (cell c s) 0)
    ∗ (bigSep Finset.univ fun s : SemLoc sig => atPos ER (cell c s) 0 ∅ 0) ∗ (bigSep Finset.univ fun s : SemLoc sig => reached ER (cell c s) 0) ∗ minted (F := F) c)

theorem deal : BI.own (ER (initOf kCells kDuties)) ⊢ (|==> bigSep Finset.univ (G m) : sProp 𝕄) := by
  have hX (Φ : GSem nD τ sig → sProp 𝕄) : bigSep kCells Φ = bigSep Finset.univ fun c : Dev nD => bigSep Finset.univ fun s : SemLoc sig => Φ (cell c s) := by
    unfold kCells; rw [bigSep_map, bigSep_univ_prod]; rfl
  have hT : bigSep kDuties (fun x => (dutyTok ER x.1 x.2.1 x.2.2 : sProp 𝕄)) = bigSep Finset.univ fun c : Dev nD => minted c := by
    unfold kDuties; rw [bigSep_map, bigSep_univ_prod]
    refine bigSep_congr fun c _ => ?_
    have h2 : (bigSep Finset.univ fun b : Bool => (dutyTok ER (barCell c) 0 b : sProp 𝕄)) = iprop(dutyTok ER (barCell c) 0 false ∗ dutyTok ER (barCell c) 0 true) :=
      bigSep_univ_eq_bigSepL [false, true] (by decide) (by decide) _
    have h3 (A B C : sProp 𝕄) : iprop((A ∗ B) ∗ C) = iprop(A ∗ B ∗ C) := BI.equiv_iff.mp ⟨BI.sep_assoc, BI.sep_assoc'⟩
    unfold minted
    rw [← h3, ← h2, bigSep_univ_sum]
    rfl
  iintro HX
  imod (Rounds.fund ER (Rd m) kCells kDuties) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr'] <;> iassumption

/-! ## The cells made, and the duties dealt around -/

/-- The kernel's own semaphores: every transfer's. -/
abbrev osem (s : DmaSem sig) : SemLoc sig := .dma s

omit [FloatOps F] in
/-- The barrier's semaphore is the one the launch does not scope. -/
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

/-- A device's cells made from its counters at zero. -/
theorem make (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun s : SemLoc sig => iprop(∃ κ : ℕ, cellInv ER (Rd m) κ (cell c s)))
          ∗ (bigSep Finset.univ fun s : SemLoc sig => atPos ER (cell c s) 0 ∅ 0) ∗ (bigSep Finset.univ fun s : SemLoc sig => reached ER (cell c s) 0) ∗ minted (F := F) c) := by
  have hv : iprop(semVal (barCell c) 0 ∗ Pipeline.ownSems0 (Ix := Unit) (Name := ℕ) (U := UU) (Lvl := ℕ) (Val := Elt F) (τ := τ) osem c)
      ⊢ (bigSep Finset.univ fun s : SemLoc sig => semVal (cell c s) 0 : sProp 𝕄) :=
    Entails.of_eq (loc_all fun s => semVal (cell c s) 0).symm
  have hi : iprop((bigSep Finset.univ fun s : SemLoc sig => semVal (cell c s) 0) ∗ bigSep Finset.univ fun s : SemLoc sig => roundState ER (Rd m) (cell c s) 0)
      ⊢ (|={Set.univ}=> bigSep Finset.univ fun s : SemLoc sig => iprop(∃ κ : ℕ, cellInv ER (Rd m) κ (cell c s)) : sProp 𝕄) := by
    rw [← bigSep_sep']
    exact (bigSep_mono fun s _ => (Rounds.body_intro ER (Rd m) (cell c s)).trans inv_alloc).trans (bigSep_fupd _ _)
  unfold G
  rw [unscopedSems0_eq]
  iintro ⟨Hos, Hus, Hst, Hrest⟩
  ihave Hv := hv $$ [Hos Hus]
  · isplitl [Hus] <;> iassumption
  imod hi $$ [Hv Hst] with Hinv
  · isplitl [Hv] <;> iassumption
  imodintro
  isplitl [Hinv] <;> iassumption

/-- What device `c` keeps: its places and the duties it pays. -/
def kept (c : Dev nD) : sProp 𝕄 :=
  iprop((dutyTok ER (barCell (zp c)) 0 false ∗ dutyTok ER (barCell (xn c)) 0 true ∗ atPos ER (barCell c) 0 ∅ 0) ∗ toks (F := F) c ∗ places (F := F) c)
/-- That, with every cell's record. -/
def G' (c : Dev nD) : sProp 𝕄 := iprop((∃ K, records m K) ∗ kept (F := F) c)

omit [FloatOps F] in
/-- The duties go to the devices that pay them. -/
theorem around : (bigSep Finset.univ fun c : Dev nD => (minted c : sProp 𝕄))
    ⊢ iprop((bigSep Finset.univ fun c : Dev nD => dutyTok ER (barCell (zp c)) 0 false) ∗ (bigSep Finset.univ fun c : Dev nD => dutyTok ER (barCell (xn c)) 0 true)
        ∗ bigSep Finset.univ fun c : Dev nD => toks (F := F) c) := by
  have hz (Φ : Dev nD → sProp 𝕄) : bigSep Finset.univ Φ = bigSep Finset.univ fun c => Φ (zp c) := bigSep_univ_equiv zpE Φ
  have hx (Φ : Dev nD → sProp 𝕄) : bigSep Finset.univ Φ = bigSep Finset.univ fun c => Φ (xn c) := bigSep_univ_equiv xnE Φ
  unfold minted toks
  simp only [dma_all, bigSep_sep']
  rw [hz fun c => dutyTok ER (barCell c) 0 false, hx fun c => dutyTok ER (barCell c) 0 true,
    hz fun c => all fun k => tok c (zrS k), hx fun c => all fun k => tok c (xrS k)]

omit [FloatOps F] in
theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun s : SemLoc sig => iprop(∃ κ : ℕ, cellInv ER (Rd m) κ (cell c s)))
          ∗ (bigSep Finset.univ fun s : SemLoc sig => atPos ER (cell c s) 0 ∅ 0) ∗ (bigSep Finset.univ fun s : SemLoc sig => reached ER (cell c s) 0) ∗ minted (F := F) c) : sProp 𝕄)
      ⊢ bigSep Finset.univ (G' m) := by
  have hp (c : Dev nD) : (bigSep Finset.univ fun s : SemLoc sig => atPos ER (cell c s) 0 ∅ 0 : sProp 𝕄) = iprop(atPos ER (barCell c) 0 ∅ 0 ∗ places (F := F) c) := by
    rw [loc_all, dma_all]; rfl
  have hk : iprop((bigSep Finset.univ fun c : Dev nD => dutyTok ER (barCell (zp c)) 0 false) ∗ (bigSep Finset.univ fun c : Dev nD => dutyTok ER (barCell (xn c)) 0 true)
        ∗ (bigSep Finset.univ fun c : Dev nD => atPos ER (barCell c) 0 ∅ 0) ∗ (bigSep Finset.univ fun c : Dev nD => toks (F := F) c) ∗ bigSep Finset.univ fun c : Dev nD => places (F := F) c)
      ⊢ bigSep Finset.univ (kept (F := F)) := by
    unfold kept; simp only [bigSep_sep']
    iintro ⟨H1, H2, H3, H4, H5⟩
    isplitl [H1 H2 H3]
    · isplitl [H1]; · iexact H1
      isplitl [H2] <;> iassumption
    isplitl [H4] <;> iassumption
  rw [bigSep_sep', bigSep_sep', bigSep_sep', ← bigSep_univ_prod (fun g : Dev nD × SemLoc sig => iprop(∃ κ : ℕ, cellInv ER (Rd m) κ (cell g.1 g.2))),
    ← bigSep_univ_prod (fun g : Dev nD × SemLoc sig => (reached ER (cell g.1 g.2) 0 : sProp 𝕄)), bigSep_congr (s := Finset.univ) (fun c _ => hp c), bigSep_sep']
  iintro ⟨HI, ⟨Hab, Hap⟩, #HR, Htok⟩
  ihave HK := (BI.bigSep_exists_pi Finset.univ (fun (g : Dev nD × SemLoc sig) (κ : ℕ) => (cellInv ER (Rd m) κ (cell g.1 g.2) : sProp 𝕄))) $$ HI
  icases HK with ⟨%K, #HI⟩
  ihave Htk := (around (F := F)) $$ Htok
  icases Htk with ⟨H1, H2, H3⟩
  iapply (bigSep_with (R := records m K) (Φ := kept (F := F)) fun c _ => show iprop(records m K ∗ kept (F := F) c) ⊢ G' m c from by
    unfold G'; iintro ⟨HR, Hk⟩
    isplitl [HR]; · iexists K; iexact HR
    iexact Hk)
  isplitr
  · unfold records; isplitl; · iexact HI
    iexact HR
  iapply hk
  isplitl [H1]; · iexact H1
  isplitl [H2]; · iexact H2
  isplitl [Hab]; · iexact Hab
  isplitl [H3] <;> iassumption

/-- The machine's step at launch: all cells made, and the duties dealt. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => make m c).trans (bigSep_fupd _ _)).trans (BI.fupd_mono (regroup m))

/-! ## The launch credit -/

/-- The arrivals owed to device `e`, read at an arrival's cell of device `c`. -/
theorem arrivals_at (e : Dev nD) (a : Fin 8 → DmaSem sig) (ha : ∀ k, chk (a k) = k) (c : Dev nD) (k : Fin 8) :
    (∑ l : Fin 8, tallyAt (cell e (.dma (a l))) () (N l) : CellTallies nD τ sig Unit) (cell c (.dma (a k))) () = if c = e then N k else 0 := by
  rw [Finset.sum_apply, Finsupp.finset_sum_apply]
  by_cases h : c = e
  · subst h
    rw [if_pos rfl, Finset.sum_eq_single k _ fun h => absurd (Finset.mem_univ k) h, tallyAt_apply, if_pos ⟨rfl, rfl⟩]
    intro l _ hl
    rw [tallyAt_apply, if_neg fun h' => hl ?_]
    have h2 : SemLoc.dma (a k) = SemLoc.dma (a l) := congrArg Prod.snd h'.1
    rw [← ha l, ← SemLoc.dma.inj h2, ha k]
  · rw [if_neg h]
    exact Finset.sum_eq_zero fun l _ => by
      rw [tallyAt_apply, if_neg fun h' => h (congrArg (fun g : GSem nD τ sig => g.1.1) h'.1)]
/-- None are owed at any other cell. -/
theorem arrivals_off (e : Dev nD) (a : Fin 8 → DmaSem sig) (c : Dev nD) (s : SemLoc sig) (h : ∀ k, s ≠ .dma (a k)) :
    (∑ l : Fin 8, tallyAt (cell e (.dma (a l))) () (N l) : CellTallies nD τ sig Unit) (cell c s) () = 0 := by
  rw [Finset.sum_apply, Finsupp.finset_sum_apply]
  exact Finset.sum_eq_zero fun l _ => by rw [tallyAt_apply, if_neg fun h' => h l (congrArg Prod.snd h'.1)]
/-- A unit owed to device `e`'s barrier, read at a cell of device `c`. -/
theorem unit_at (e c : Dev nD) : (tallyAt (barCell e) () 1 : CellTallies nD τ sig Unit) (barCell c) () = if c = e then 1 else 0 := by
  rw [tallyAt_apply]
  by_cases h : c = e
  · subst h; rw [if_pos ⟨rfl, rfl⟩, if_pos rfl]
  · rw [if_neg h, if_neg fun h' => h (congrArg (fun g : GSem nD τ sig => g.1.1) h'.1)]
theorem unit_off (e c : Dev nD) (s : DmaSem sig) : (tallyAt (barCell e) () 1 : CellTallies nD τ sig Unit) (cell c (.dma s)) () = 0 := by
  rw [tallyAt_apply, if_neg fun h' => by have h2 : SemLoc.dma s = SemLoc.reg barS := congrArg Prod.snd h'.1; cases h2]

theorem O₀_at (d : Dev nD) (g : GSem nD τ sig) :
    O₀ d g () = (∑ l : Fin 8, tallyAt (cell (zp d) (.dma (zrS l))) () (N l) : CellTallies nD τ sig Unit) g ()
      + (∑ l : Fin 8, tallyAt (cell (xn d) (.dma (xrS l))) () (N l) : CellTallies nD τ sig Unit) g ()
      + (tallyAt (barCell (xn d)) () 1 : CellTallies nD τ sig Unit) g () + (tallyAt (barCell (zp d)) () 1 : CellTallies nD τ sig Unit) g () := by
  unfold O₀ O₁ owedS
  rw [Pi.add_apply, Finsupp.add_apply, Pi.add_apply, Finsupp.add_apply, Pi.add_apply, Finsupp.add_apply]

theorem zr_ne_xr (k l : Fin 8) : (SemLoc.dma (zrS k) : SemLoc sig) ≠ .dma (xrS l) := fun h => by
  have := congrArg fam (SemLoc.dma.inj h)
  rw [(zr_cls k).1, (xr_cls l).1] at this; exact absurd this (by decide)

theorem eq_zp {c d : Dev nD} : c = zp d ↔ d = zp c := ⟨fun h => by rw [h, zp_zp], fun h => by rw [h, zp_zp]⟩
theorem eq_xn {c d : Dev nD} : c = xn d ↔ d = xn c := ⟨fun h => by rw [h, xn_xn], fun h => by rw [h, xn_xn]⟩

theorem owed_bar (d c : Dev nD) : O₀ d (barCell c) () = (if d = xn c then 1 else 0) + (if d = zp c then 1 else 0) := by
  rw [O₀_at, arrivals_off _ _ _ _ (fun k h => by cases h), arrivals_off _ _ _ _ (fun k h => by cases h), unit_at, unit_at, zero_add, zero_add]
  simp only [eq_zp (c := c), eq_xn (c := c)]
theorem owed_zr (d c : Dev nD) (k : Fin 8) : O₀ d (cell c (.dma (zrS k))) () = if d = zp c then N k else 0 := by
  rw [O₀_at, arrivals_at _ _ (fun k => (zr_cls k).2), arrivals_off _ _ _ _ (zr_ne_xr k), unit_off, unit_off, add_zero, add_zero, add_zero]
  simp only [eq_zp (c := c)]
theorem owed_xr (d c : Dev nD) (k : Fin 8) : O₀ d (cell c (.dma (xrS k))) () = if d = xn c then N k else 0 := by
  rw [O₀_at, arrivals_at _ _ (fun k => (xr_cls k).2), arrivals_off _ _ _ _ (fun l => (zr_ne_xr l k).symm), unit_off, unit_off, add_zero, add_zero, zero_add]
  simp only [eq_xn (c := c)]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (xn c) fun _ => 1, Finset.sum_ite_eq' Finset.univ (zp c) fun _ => 1, if_pos (Finset.mem_univ _), if_pos (Finset.mem_univ _)]
/-- A cell to which one device owes `n`. -/
theorem launch_one (g : GSem nD τ sig) (e : Dev nD) (n : ℕ) (h : ∀ d, O₀ d g () = if d = e then n else 0) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, Finset.sum_congr rfl fun d _ => h d, Finset.sum_ite_eq' Finset.univ e fun _ => n,
    if_pos (Finset.mem_univ _)]

omit [FloatOps F] in
/-- A device's launch credit: two units of its barrier, and every arrival of both kinds. -/
theorem creds (c : Dev nD) :
    (Pipeline.launchCred O₀ c : sProp 𝕄)
      ⊢ iprop(cred (tallyAt (barCell c) () 2) ∗ all (fun k => due (F := F) c (zrS k) k) ∗ all (fun k => due (F := F) c (xrS k) k)) := by
  have hz : (fun k => cred (tallyOn (cell c (.dma (zrS k))) (launchCredit (Pipeline.owing O₀) 0 (cell c (.dma (zrS k)))))) = fun k => due (F := F) c (zrS k) k :=
    funext fun k => by rw [launch_one _ (zp c) (N k) fun d => owed_zr d c k]
  have hx : (fun k => cred (tallyOn (cell c (.dma (xrS k))) (launchCredit (Pipeline.owing O₀) 0 (cell c (.dma (xrS k)))))) = fun k => due (F := F) c (xrS k) k :=
    funext fun k => by rw [launch_one _ (xn c) (N k) fun d => owed_xr d c k]
  unfold Pipeline.launchCred
  rw [loc_all, dma_all, launch_bar, hz, hx]
  iintro ⟨Hb, -, -, Hz, -, Hx, -⟩
  isplitl [Hb]; · iexact Hb
  isplitl [Hz] <;> iassumption

end Cert.AllReduce

end
-- ==== Proof.Launch.lean ====
/-
# 01_k — the kernel on the machine

The eight devices run together: each device's part (`work_spec`) is put under the launch, whose end state has each
device's block unchanged, its result at `res`, and every counter at zero.
-/
module

public import proofs.«01_k».proof.Proof.Deal
public import proofs.«01_k».proof.Proof.Gen.KernelIdeal.Points
public import Idealize.ShloMosaic.Lib.Pipeline.CollectiveSegs

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Whole buffers and chunks -/

abbrev argPts (c : Dev nD) (f : S2048x512.Idx → Elt F .f32) : sProp 𝕄 :=
  ((c : Thread nD τ).loc main_arg0) ↦{fullShare} (f : Buf (Elt F) ((c : Thread nD τ).loc main_arg0))
abbrev outPts (c : Dev nD) (f : S2048x512.Idx → Elt F .f32) : sProp 𝕄 :=
  ((c : Thread nD τ).loc main_v1) ↦{fullShare} (f : Buf (Elt F) ((c : Thread nD τ).loc main_v1))

omit [FloatOps F] in
/-- Chunks of one contents are chunks of some contents. -/
theorem each_some {X : Type} (Φ : Fin 8 → X → sProp 𝕄) (f : X) : all (fun k => Φ k f) ⊢ all fun k => iprop(∃ f, Φ k f) :=
  bigSep_mono fun k _ => show Φ k f ⊢ iprop(∃ f, Φ k f) from by iintro H; iexists f; iexact H

/-- What device `c` starts from: the records, its places and duties, its credits, its block and its result array. -/
def dealt (c : Dev nD) : sProp 𝕄 :=
  iprop(G' m c ∗ levAts L lv ∗ (cred (tallyAt (barCell c) () 2) ∗ all (fun k => due (F := F) c (zrS k) k) ∗ all (fun k => due (F := F) c (xrS k) k))
    ∗ argPts c (inp m c) ∗ ∃ f, outPts c f)
def Φ₀ (c : Dev nD) : sProp 𝕄 := iprop(dealt m c ∗ Pipeline.scopedRest cfg0.spec c)
/-- What it ends with: its block, the result, its scratch buffers, and its counters at zero. -/
def Φ₁ (c : Dev nD) : sProp 𝕄 :=
  iprop((semVal (barCell c) 0 ∗ argPts c (inp m c) ∗ outPts c (res m c)) ∗ zeros (F := F) c ∗ Pipeline.scopedRest cfg0.spec c)

/-- The start, chunk by chunk. -/
theorem open_start (c : Dev nD) : Φ₀ m c ⊢ iprop(∃ K, records m K ∗ levAts L lv ∗ pre m c ∗ aRest c (inp m c)) := by
  unfold Φ₀ dealt G' kept pre sAny rAny
  rw [scopedRest0_eq]
  iintro ⟨⟨⟨⟨%K, HR⟩, ⟨Tz, Tx, Pb⟩, Htok, Hpl⟩, Hlev, ⟨Cb, Cz, Cx⟩, Ha, ⟨%fo, Ho⟩⟩, ⟨%f0, H0⟩, ⟨%f1, H1⟩, ⟨%f2, H2⟩⟩
  ihave H0 := ((Entails.of_eq (xAt_all c fullShare f0)).trans (each_some _ _)) $$ H0
  ihave H1 := ((Entails.of_eq (sAt_all c fullShare f1)).trans (each_some _ _)) $$ H1
  ihave H2 := ((Entails.of_eq (rAt_all c fullShare f2)).trans (each_some _ _)) $$ H2
  ihave Ho := (out_all c fo).1 $$ Ho
  icases Ho with ⟨Hom, Hoo⟩
  ihave Hom := (each_some (fun k f => omAt c k f) fo) $$ Hom
  ihave Hoo := (each_some (fun k f => ooAt c k f) fo) $$ Hoo
  ihave Ha := (arg_all c (inp m c)).1 $$ Ha
  icases Ha with ⟨Ha, Har⟩
  iexists K
  isplitl [HR]; · iexact HR
  isplitl [Hlev]; · iexact Hlev
  isplitr [Har]
  · isplitl [Tz Tx Cb Pb]
    · isplitl [Tz]; · iexact Tz
      isplitl [Tx]; · iexact Tx
      isplitl [Cb] <;> iassumption
    isplitl [Htok]; · iexact Htok
    isplitl [Hpl]; · iexact Hpl
    isplitl [Cz]; · iexact Cz
    isplitl [Cx]; · iexact Cx
    isplitl [Ha]; · iexact Ha
    isplitl [H0]; · iexact H0
    isplitl [H1]; · iexact H1
    isplitl [H2]; · iexact H2
    isplitl [Hom] <;> iassumption
  iexact Har

/-- The end, the chunks put together. -/
theorem close_end (c : Dev nD) : iprop(post m c ∗ aRest c (inp m c)) ⊢ Φ₁ m c := by
  unfold Φ₁ post
  rw [scopedRest0_eq]
  iintro ⟨⟨Zb, Z, Ha, Hxl, Hxr, Hsl, Hsr, Hr, Hom, Hoo⟩, Har⟩
  ihave Hxl := (Entails.of_eq (xAt_all c fullShare.left (own m c)).symm) $$ Hxl
  ihave Hxr := (Entails.of_eq (xAt_all c fullShare.right (own m c)).symm) $$ Hxr
  ihave Hsl := (Entails.of_eq (sAt_all c fullShare.left (tot m c)).symm) $$ Hsl
  ihave Hsr := (Entails.of_eq (sAt_all c fullShare.right (tot m c)).symm) $$ Hsr
  ihave Hr := (Entails.of_eq (rAt_all c fullShare (tot m (xn c))).symm) $$ Hr
  ihave Hx := (pointsTo_share (PosShare.mem_left_op_right fullShare)).2 $$ [Hxl Hxr]
  · isplitl [Hxl] <;> iassumption
  ihave Hs := (pointsTo_share (PosShare.mem_left_op_right fullShare)).2 $$ [Hsl Hsr]
  · isplitl [Hsl] <;> iassumption
  ihave Ha := (arg_all c (inp m c)).2 $$ [Ha Har]
  · isplitl [Ha] <;> iassumption
  ihave Ho := (out_all c (res m c)).2 $$ [Hom Hoo]
  · isplitl [Hom] <;> iassumption
  isplitl [Zb Ha Ho]
  · isplitl [Zb]; · iexact Zb
    isplitl [Ha] <;> iassumption
  isplitl [Z]; · iexact Z
  isplitl [Hx]; · iexists _; iexact Hx
  isplitl [Hs]; · iexists _; iexact Hs
  iexists _; iexact Hr

/-! ## Under the launch -/

/-- The call has no window: what it carries is `Φ₀` before its one point and `Φ₁` after it. -/
def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

/-- The kernel's body is `work`, at the device it finds itself on. -/
theorem body_spec (c : Dev nD) (Q : PUnit.{1} → sProp 𝕄) :
    iprop((Φ₀ m c ∗ ∃ W, owes (c : Thread nD τ) (O₀ c) W) ∗ ((Φ₁ m c ∗ ∃ W, owes (c : Thread nD τ) 0 W) -∗ Q ⟨⟩))
      ⊢ Run c (bodyAt0 t0_0 : P (F := F)) Q := by
  rw [show (bodyAt0 t0_0 : P (F := F)) = (Prog.lift .deviceId >>= work) from body_eq]
  unfold Run
  simp only [Prog.lift, Prog.bind_op, Prog.bind_ret, wp_deviceId]
  iintro ⟨⟨H, HO⟩, Hk⟩
  ihave H := (open_start m c) $$ H
  icases H with ⟨%K, HR, Hlev, Hpre, Har⟩
  iapply (work_spec m K c)
  isplitl [HR Hlev HO]
  · isplitl [HR]; · iexact HR
    isplitl [Hlev] <;> iassumption
  isplitl [Hpre]; · iexact Hpre
  iintro ⟨Hpost, HO⟩
  iapply Hk
  isplitl [Hpost Har]
  · iapply (close_end m c)
    isplitl [Hpost] <;> iassumption
  iexact HO

set_option maxRecDepth 16000 in
theorem body_obligation (c : Dev nD) : BodyObligation (dats (F := F) m 0 c) (defs₀ (F := F)) 𝒱₀ () Set.univ := fun t => by
  rw [show t = t0_0 from fin_N0 t]
  have hW (Φ : Fin cfg0.W → sProp 𝕄) : bigSep Finset.univ Φ = iprop(emp) := by
    rw [show (Finset.univ : Finset (Fin cfg0.W)) = ∅ from Finset.eq_empty_of_forall_notMem fun w => w.elim0]; exact bigSep_empty
  rw [hW, hW]
  show iprop(Φ₀ m c ∗ (dats m 0 c).owesAt () (Fin.castSucc t0_0) ∗ emp) ⊢ Run c (bodyAt0 t0_0 : P (F := F)) (fun _ => iprop(Φ₁ m c ∗ (dats m 0 c).owesAt () (Fin.succ t0_0) ∗ emp))
  iintro ⟨H, Ho, -⟩
  iapply (body_spec m c)
  unfold Dat.owesAt Pipeline.owesWithin
  icases Ho with ⟨%W, %hW, HO⟩
  isplitl [H HO]
  · isplitl [H]; · iexact H
    iexists W; iexact HO
  iintro ⟨H, ⟨%W', HO⟩⟩
  isplitl [H]; · iexact H
  isplitl [HO]
  · iexists W'
    isplitr; · ipureintro; exact fun _ _ => Or.inl trivial
    iexact HO
  iempintro

/-! ## The launch's side conditions -/

theorem ownSemFacts : Pipeline.OwnSemFacts cfg0.spec osem :=
  ⟨by decide +kernel, fun _ _ h => SemLoc.dma.inj h, fun _ w => w.elim0⟩

theorem dealt_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(dealt m c ∗ emp) := by
  rw [Pipeline.unscopedRestP_none, unscopedRest0_eq]
  unfold dealt
  iintro ⟨⟨Ha, Ho⟩, Hlev, Hcr, -, HG⟩
  ihave Hc := (creds (F := F) c) $$ Hcr
  imodintro
  isplitl
  · isplitl [HG]; · iexact HG
    isplitl [Hlev]; · iexact Hlev
    isplitl [Hc]; · iexact Hc
    isplitl [Ha]; · iexact Ha
    iexists _; iexact Ho
  iempintro

theorem phi0_intro (c : Dev nD) :
    iprop(dealt m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  iintro ⟨Hs, -, Hr⟩
  isplitl [Hs] <;> iassumption

/-- What the call leaves outside its own memory: the barrier's counter at zero, the block, the result. -/
def left (c : Dev nD) : sProp 𝕄 := iprop(semVal (barCell c) 0 ∗ argPts c (inp m c) ∗ outPts c (res m c))

theorem phi1_exit (c : Dev nD) :
    (dats m 0 c).Φ (Fin.last cfg0.N) ⊢ iprop(left m c ∗ Pipeline.ownSems0 osem c ∗ Pipeline.scopedRest cfg0.spec c) := by
  rw [show (dats m 0 c).Φ (Fin.last cfg0.N) = Φ₁ m c from rfl,
    show (Pipeline.ownSems0 osem c : sProp 𝕄) = zeros (F := F) c from dma_all fun s => zero (F := F) c s]
  exact BI.Entails.refl _

theorem waits (c : Dev nD) : (levAts L lv : sProp 𝕄) ⊢ Pipeline.cellsWaits cfgs (dats m) () 0 c :=
  Pipeline.cellsWaits_intro cfgs (dats m) () 0 c fun w => w.elim0

/-- The end state, read off what the call leaves. -/
theorem left_read (c : Dev nD) (s : Phys nD τ sig (Elt F)) :
    iprop(left m c ∗ emp ∗ SI s) ⊢ |={Set.univ}=> iprop(⌜(∀ sm : SemLoc sig, sm.isScoped .tc = false → s.mem.sem ((c.tc : Thread nD τ), sm) = 0)
      ∧ s.mem.mem ((c : Thread nD τ).loc main_arg0) = inp m c ∧ s.mem.mem ((c : Thread nD τ).loc main_v1) = res m c⌝ ∗ SI s) := by
  unfold left
  rw [← unscopedSems0_eq]
  iintro ⟨⟨Hz, Ha, Ho⟩, -, HSI⟩
  icombine Ha HSI gives %ha
  icombine Ho HSI gives %ho
  imod (Pipeline.unscopedSems0_read (X := unscopedSems0 c) (c := c) fupd_intro s) $$ [Hz HSI] with ⟨%hz, HSI⟩
  · isplitl [Hz] <;> iassumption
  imodintro
  isplitr
  · ipureintro; exact ⟨hz, Buf.eq_of_forall_mem_univ ha, Buf.eq_of_forall_mem_univ ho⟩
  iexact HSI

set_option maxRecDepth 8000 in
/-- On the eight devices, for any float values, from any memory with zero counters: every weakly fair execution ends,
    and in every end state each device's block is as it was, its result is `res`, and every counter is zero. -/
theorem run_main : θ_run defs (onTc (τ := τ) (main (F := F))) ⟨m, fun _ => 0, ρ⟩ (fun r =>
    (∀ c : Dev nD, r.2.mem ((c : Thread nD τ).loc main_arg0) = inp m c ∧ r.2.mem ((c : Thread nD τ).loc main_v1) = res m c) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (deal m) $$ HX with HG
      imodintro
      isplitl [HP] <;> iassumption)
    (hglob := glob m)
    (hA := fun _ w => w.elim0) (hpf := fun _ k => k.elim0)
    (X := dealt m) (Y := left m) (Z := fun _ => iprop(emp))
    (hX := dealt_intro m ρ) (hin := phi0_intro m) (hout := phi1_exit m)
    (QY := fun c s => (∀ sm : SemLoc sig, sm.isScoped .tc = false → s.sem ((c.tc : Thread nD τ), sm) = 0)
      ∧ s.mem ((c : Thread nD τ).loc main_arg0) = inp m c ∧ s.mem ((c : Thread nD τ).loc main_v1) = res m c)
    (hY := left_read m)
    (hQ := fun _ h hs => ⟨fun c => (h c).2.2.2, sem_eq_zero hs fun c => (h c).2.2.1⟩)

end Cert.AllReduce

end
-- ==== Proof.Value.lean ====
/-
# 01_k — the kernel's result is the reference's

The whole array has two halves of 2048 rows; a device holds half `c % 2` of it and its partner the other. Over the
extended reals every row of the result is the sum of the two halves' rows, in one order or the other, and so is
every row of the reference's.
-/
module

public import proofs.«01_k».proof.Proof.Launch
public import proofs.«01_k».proof.Proof.Gen.ReferenceIdeal.Run
public import Idealize.ShloMosaic.Lib.Layout
public import Idealize.ShloMosaic.Lib.Pointwise.Tactic
public import Idealize.ShloMosaic.Lib.Pointwise.Reduce

@[expose] public section

noncomputable section

namespace Cert.AllReduce

open Cert.KernelIdeal Cert.KernelIdeal.Gen
open Idealize.ShloMosaic Idealize.ShloMosaic.TcCoe

/-- Where row `i` of part `p` of the whole array is. -/
def part (p : ℕ) (i : S2048x512.Idx) : (⟨2, ![4096, 512]⟩ : Shape).Idx :=
  ix2 ⟨2048 * (p % 2) + (i 0).val, by have : (i 0).val < 2048 := (i 0).isLt; omega⟩ (i 1)

/-- The reference's value: the sum over the two parts. -/
abbrev refOut (x : FVec Ideal ⟨2, ![4096, 512]⟩ .f32) : FVec Ideal S2048x512 .f32 :=
  Host.reduceAdd (shapeCast _ x Cert.ReferenceIdeal.Gen.shapeCasts_S4096x512_S2x2048x512)
    (constant Cert.ReferenceIdeal.S_ .f32 0x00000000#32) Cert.ReferenceIdeal.Gen.reducesTo_S2x2048x512_S2048x512_d0 Cert.ReferenceIdeal.Gen.h_S_

/-- The whole array in two parts: part `p`'s row `i` is the whole array's row `2048 p + i`. -/
theorem split_at (x : FVec Ideal ⟨2, ![4096, 512]⟩ .f32) (p : Fin 2) (i : S2048x512.Idx) (h : (i 0).val < 2048) (h' : (i 1).val < 512) :
    shapeCast Cert.ReferenceIdeal.S2x2048x512 x Cert.ReferenceIdeal.Gen.shapeCasts_S4096x512_S2x2048x512 (ix3 p ⟨(i 0).val, h⟩ ⟨(i 1).val, h'⟩) = x (part p.val i) := by
  refine congrArg x (Shape.reshapeEquiv_eq_of_rowMajor _ ?_)
  rw [Shape.rowMajor_val_three, Shape.rowMajor_val_two]
  show (2048 * (p.val % 2) + (i 0).val) * 512 + (i 1).val = (p.val * 2048 + (i 0).val) * 512 + (i 1).val
  have := p.isLt; omega

/-- A row of the reference's value is the sum of the two parts' rows. -/
theorem refOut_at (x : FVec Ideal ⟨2, ![4096, 512]⟩ .f32) (i : S2048x512.Idx) :
    refOut x i = (x (part 0 i) + x (part 1 i) : EReal) := by
  refine (Ideal.hostReduceAdd_r3_a0 _ _ _ i).trans ?_
  rw [Fin.sum_univ_two]
  refine (congrArg₂ (· + ·) (Ideal.ofBits_zero_f32) (congrArg₂ (· + ·) (split_at x 0 i _ _) (split_at x 1 i _ _))).trans ?_
  exact zero_add _

/-- A row of one half, taken in that half, is itself. -/
theorem up_down {h : ℕ} {i : S2048x512.Idx} (e : (i 0).val / 1024 = h) : up h (down i) = i := by
  funext a
  have hi : (i 0).val < 2048 := (i 0).isLt
  match a with
  | ⟨0, _⟩ => exact Fin.ext (show (1024 * h + (i 0).val % 1024) % 2048 = (i 0).val by omega)
  | ⟨1, _⟩ => rfl

variable (m : (ℓ : Loc nD τ sig) → Buf (Elt Ideal) ℓ) (x : FVec Ideal ⟨2, ![4096, 512]⟩ .f32)

/-- Every device's block is its block of the whole array `x`. -/
abbrev Holds : Prop := ∀ c : Dev nD,
  m ((c.tc : Thread nD τ).loc main_arg0) = Layout.blockN ⟨2, ![2048, 512]⟩ ⟨2, ![4096, 512]⟩ (Layout.meshBlock [2, 2, 2] ![[2], []] c) x

variable {m x} in
/-- Device `c` holds part `c % 2`. -/
theorem inp_at (H : Holds m x) (c : Dev nD) (i : S2048x512.Idx) : inp m c i = x (part c.val i) := by
  refine (congrFun (H c) i).trans (congrArg x (funext fun a => Fin.ext ?_))
  match a with
  | ⟨0, _⟩ =>
    show (c.val / 1 % 2 * 1 + 0) * 2048 + (i 0).val = 2048 * (c.val % 2) + (i 0).val
    omega
  | ⟨1, _⟩ => show 0 * 512 + (i 1).val = (i 1).val; omega

variable {m x} in
/-- A device's sum, at a row of its half, is the reference's value there. -/
theorem tot_at (H : Holds m x) (c : Dev nD) (i : S2048x512.Idx) (e : (i 0).val / 1024 = c.val / 4) : tot m c (down i) = refOut x i := by
  have hz : (zp c).val % 2 = 1 - c.val % 2 := (by decide : ∀ c : Dev nD, (zp c).val % 2 = 1 - c.val % 2) c
  show (inp m (zp c) (up ((zp c).val / 4) (down i)) + inp m c (up (c.val / 4) (down i)) : EReal) = _
  rw [zp_half, up_down e, inp_at H, inp_at H, refOut_at]
  have hp : ∀ p q : ℕ, p % 2 = q % 2 → part p i = part q i := fun p q h => by unfold part; simp only [h]
  rcases Nat.mod_two_eq_zero_or_one c.val with h | h
  · rw [hp (zp c).val 1 (by omega), hp c.val 0 (by omega)]; exact add_comm _ _
  · rw [hp (zp c).val 0 (by omega), hp c.val 1 (by omega)]

variable {m x} in
/-- Every device's result is the reference's value. -/
theorem res_eq (H : Holds m x) (c : Dev nD) : res m c = refOut x := by
  funext i
  have hi : (i 0).val < 2048 := (i 0).isLt
  have hc := c.isLt
  unfold res
  split
  · next e => exact tot_at H c i e
  · next e => exact tot_at H (xn c) i (by rw [xn_half]; simp only [nD] at hc; omega)

end Cert.AllReduce

end
-- ==== Proof.lean ====
/-
# 01_k — the certificate

`Cert.Claim`: the kernel as it is and its idealized reading both run to the end on eight devices, each leaving its
argument as it was and every counter at zero, and so does the reference on one; the reading keeps the kernel's text;
and over the extended reals every device's result is the reference's value of the whole array.
-/
module

public import proofs.«01_k».proof.Defs
public import proofs.«01_k».proof.Proof.Gen.Kernel
public import proofs.«01_k».proof.Proof.Value
public import Idealize.ShloMosaic.Adequacy
public import Idealize.ShloMosaic.Init

@[expose] public section

noncomputable section

namespace Cert.Proof

open Idealize.ShloMosaic Idealize.ShloMosaic.TcCoe Idealize.SL.Sem

/-- The idealized kernel runs to the end from any memory, leaving every argument as it was and every counter at zero. -/
theorem frame_kernelIdeal : Cert.quiescent_KernelIdeal := fun m ρ _ =>
  (θ_run Cert.KernelIdeal.defs _ _).mono (fun _ h => ⟨fun c => (h.1 c).1, h.2⟩) (Cert.AllReduce.run_main (F := Ideal) m ρ)

/-- So does the kernel as it is: the two programs have the same text, and the run is one for any float values. -/
theorem frame_kernel : Cert.quiescent_Kernel := fun m ρ _ =>
  (θ_run Cert.KernelIdeal.defs _ _).mono (fun _ h => ⟨fun c => (h.1 c).1, h.2⟩) (Cert.AllReduce.run_main (F := Bits) m ρ)

/-- So does the reference, which has no counters. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- Over the extended reals: if every device holds its block of the reference's argument, every device's result is the
    reference's, and all arguments stay as they were. -/
theorem algebraic : Cert.algebraic_KernelIdeal_ReferenceIdeal := fun m ρ m' ρ' _ H =>
  ⟨Cert.AllReduce.refOut (m' (((0 : Dev Cert.ReferenceIdeal.nD).tc : Thread Cert.ReferenceIdeal.nD Cert.ReferenceIdeal.τ).loc Cert.ReferenceIdeal.main_arg0)),
    (θ_run Cert.KernelIdeal.defs _ _).mono (fun _ h c => ⟨(h.1 c).2.trans (Cert.AllReduce.res_eq H c), (h.1 c).1⟩)
      (Cert.AllReduce.run_main (F := Ideal) m ρ),
    (θ_run Cert.ReferenceIdeal.defs _ _).mono (fun _ h => h 0) (Cert.ReferenceIdeal.Value.run m' ρ')⟩

theorem claim : Cert.Claim := ⟨Cert.Kernel.Gen.facts, Cert.KernelIdeal.Gen.facts, Cert.ReferenceIdeal.Gen.facts,
  frame_kernel, frame_kernelIdeal, frame_reference, trivial, algebraic⟩

end Cert.Proof

end
